-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S16384 : Shape := ⟨1, ![16384]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S1x128 : Shape := ⟨2, ![1, 128]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  slices_S100000x128_S1x128_0_0 : S100000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : IVec S16384x200 32) (main_arg1 : FVec F S16384 .f32) (main_arg2 : FVec F S100000x128 .f32) (main_arg3 : FVec F S128x128 .f32) (main_arg4 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 100000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_v6 : FVec F S1x128 .f32 := (extractStridedSlice S1x128 ![0, 0] · slices_S100000x128_S1x128_0_0) main_arg2
  let main_v7 : FVec F S128 .f32 := shapeCast S128 main_v6 shapeCasts_S1x128_S128
  let main_v8 : FVec F S128 .f32 := Host.absf main_v7
  let main_cst : FVec F S_ .f32 := constant S_ .f32 0x7F800000#32
  let main_v9 : FVec F S128 .f32 := broadcastInDim S128 ![] bcast_S_S128 main_cst
  let main_v10 : IVec S128 1 := cmpf .olt main_v8 main_v9
  let main_c_2 : IVec S_ 1 := constantI S_ 1 1#1
  let main_v11 : IVec S_ 1 := (fun x v => Host.reduce IntOp.andi x v reducesTo_S128_S_d0 h_S_) main_v10 main_c_2
  let main_v12 : IVec S_ 1 := andi main_v5 main_v11
  main_v12
-- ==== Kernel.lean ====
abbrev S16384x200 : Shape := ⟨2, ![16384, 200]⟩
abbrev S16384 : Shape := ⟨1, ![16384]⟩
abbrev S100000x128 : Shape := ⟨2, ![100000, 128]⟩
abbrev S128x128 : Shape := ⟨2, ![128, 128]⟩
abbrev S128 : Shape := ⟨1, ![128]⟩
abbrev S3276800 : Shape := ⟨1, ![3276800]⟩
abbrev S8192x2x128 : Shape := ⟨3, ![8192, 2, 128]⟩
abbrev S400 : Shape := ⟨1, ![400]⟩
abbrev S400x128 : Shape := ⟨2, ![400, 128]⟩
abbrev S2x128 : Shape := ⟨2, ![2, 128]⟩
abbrev S2 : Shape := ⟨1, ![2]⟩
abbrev S_ : Shape := ⟨0, ![]⟩
abbrev S1x128 : Shape := ⟨2, ![1, 128]⟩
abbrev S16 : Shape := ⟨1, ![16]⟩
abbrev S80x128 : Shape := ⟨2, ![80, 128]⟩
abbrev S80 : Shape := ⟨1, ![80]⟩
abbrev S1 : Shape := ⟨1, ![1]⟩
abbrev S1x16 : Shape := ⟨2, ![1, 16]⟩
abbrev S1x2x128 : Shape := ⟨3, ![1, 2, 128]⟩
abbrev S16384x128 : Shape := ⟨2, ![16384, 128]⟩
abbrev S16384x1 : Shape := ⟨2, ![16384, 1]⟩
abbrev S1024x128 : Shape := ⟨2, ![1024, 128]⟩
abbrev S1024x1 : Shape := ⟨2, ![1024, 1]⟩

abbrev nBuf : Table → Nat
  | .hbm => 11
  | .local .tc .vmem => 8
  | .local .scVector .vmem => 7
  | _ => 0

abbrev bufTy : (tb : Table) → Fin (nBuf tb) → BufTy
  | .hbm, ⟨0, _⟩ => ⟨S16384x200, .i32⟩
  | .hbm, ⟨1, _⟩ => ⟨S16384, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S3276800, .i32⟩
  | .hbm, ⟨6, _⟩ => ⟨S8192x2x128, .f32⟩
  | .hbm, ⟨7, _⟩ => ⟨S16384x128, .f32⟩
  | .hbm, ⟨8, _⟩ => ⟨S16384x1, .f32⟩
  | .hbm, ⟨9, _⟩ => ⟨S1x128, .f32⟩
  | .hbm, ⟨10, _⟩ => ⟨S16384x128, .f32⟩
  | .local .tc .vmem, ⟨0, _⟩ => ⟨S1024x128, .f32⟩
  | .local .tc .vmem, ⟨1, _⟩ => ⟨S1024x128, .f32⟩
  | .local .tc .vmem, ⟨2, _⟩ => ⟨S1024x1, .f32⟩
  | .local .tc .vmem, ⟨3, _⟩ => ⟨S1024x1, .f32⟩
  | .local .tc .vmem, ⟨4, _⟩ => ⟨S128x128, .f32⟩
  | .local .tc .vmem, ⟨5, _⟩ => ⟨S1x128, .f32⟩
  | .local .tc .vmem, ⟨6, _⟩ => ⟨S1024x128, .f32⟩
  | .local .tc .vmem, ⟨7, _⟩ => ⟨S1024x128, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | .local .scVector .vmem, ⟨4, _⟩ => ⟨S2x128, .f32⟩
  | .local .scVector .vmem, ⟨5, _⟩ => ⟨S2x128, .f32⟩
  | .local .scVector .vmem, ⟨6, _⟩ => ⟨S128, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 5, rfl⟩
abbrev main_arg2_scv : Ref sig .scVector := ⟨.hbm, 2, rfl⟩
abbrev main_v1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c400_i32 : BitVec 32 := 400#32
  let v6 : BitVec 32 := Scalar.muli v2 c400_i32
  ![v6.toNat]
def k0_off2 (i : grid0.Coords) (c1_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v32 : BitVec 32 := Scalar.addi v2 c1_i32
  let c400_i32_26 : BitVec 32 := 400#32
  let v33 : BitVec 32 := Scalar.muli v32 c400_i32_26
  ![v33.toNat]
@[reducible] def k0_t1_loop : Scf.Loop 32 :=
  let c0_i32_179 : BitVec 32 := 0#32
  let c200_i32 : BitVec 32 := 200#32
  let v296 : BitVec 32 := Scalar.addi c0_i32_179 c200_i32
  let c1_i32_180 : BitVec 32 := 1#32
  ⟨c0_i32_179, v296, c1_i32_180⟩
def k0_off3 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1459 : Index := Scalar.indexCast v1458
  let c0_976 : Index := 0#32
  ![v1459.toNat, 0]
def k0_off4 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1462 : Index := Scalar.indexCast v1458
  let c16_977 : Index := 16#32
  ![v1462.toNat, 16]
def k0_off5 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1465 : Index := Scalar.indexCast v1458
  let c32_978 : Index := 32#32
  ![v1465.toNat, 32]
def k0_off6 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1468 : Index := Scalar.indexCast v1458
  let c48_979 : Index := 48#32
  ![v1468.toNat, 48]
def k0_off7 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1471 : Index := Scalar.indexCast v1458
  let c64_980 : Index := 64#32
  ![v1471.toNat, 64]
def k0_off8 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1474 : Index := Scalar.indexCast v1458
  let c80_981 : Index := 80#32
  ![v1474.toNat, 80]
def k0_off9 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1477 : Index := Scalar.indexCast v1458
  let c96_982 : Index := 96#32
  ![v1477.toNat, 96]
def k0_off10 (k0_t1 : Fin k0_t1_loop.trips) : Fin 2 → Nat :=
  let c0_i32_975 : BitVec 32 := 0#32
  let c0_i32_179 : BitVec 32 := 0#32
  let c1_i32_180 : BitVec 32 := 1#32
  let arg15 : BitVec 32 := Scf.iv c0_i32_179 c1_i32_180 k0_t1
  let v1458 : BitVec 32 := Scalar.addi c0_i32_975 arg15
  let v1480 : Index := Scalar.indexCast v1458
  let c112_983 : Index := 112#32
  ![v1480.toNat, 112]
@[reducible] def k0_t2_loop : Scf.Loop 32 :=
  let c0_i32_214 : BitVec 32 := 0#32
  let c200_i32_215 : BitVec 32 := 200#32
  let v347 : BitVec 32 := Scalar.addi c0_i32_214 c200_i32_215
  let c1_i32_216 : BitVec 32 := 1#32
  ⟨c0_i32_214, v347, c1_i32_216⟩
def k0_off11 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1459 : Index := Scalar.indexCast v1458
  let c0_976 : Index := 0#32
  ![v1459.toNat, 0]
def k0_off12 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1462 : Index := Scalar.indexCast v1458
  let c16_977 : Index := 16#32
  ![v1462.toNat, 16]
def k0_off13 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1465 : Index := Scalar.indexCast v1458
  let c32_978 : Index := 32#32
  ![v1465.toNat, 32]
def k0_off14 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1468 : Index := Scalar.indexCast v1458
  let c48_979 : Index := 48#32
  ![v1468.toNat, 48]
def k0_off15 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1471 : Index := Scalar.indexCast v1458
  let c64_980 : Index := 64#32
  ![v1471.toNat, 64]
def k0_off16 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1474 : Index := Scalar.indexCast v1458
  let c80_981 : Index := 80#32
  ![v1474.toNat, 80]
def k0_off17 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1477 : Index := Scalar.indexCast v1458
  let c96_982 : Index := 96#32
  ![v1477.toNat, 96]
def k0_off18 (k0_t2 : Fin k0_t2_loop.trips) : Fin 2 → Nat :=
  let c200_i32_975 : BitVec 32 := 200#32
  let c0_i32_214 : BitVec 32 := 0#32
  let c1_i32_216 : BitVec 32 := 1#32
  let arg15 : BitVec 32 := Scf.iv c0_i32_214 c1_i32_216 k0_t2
  let v1458 : BitVec 32 := Scalar.addi c200_i32_975 arg15
  let v1480 : Index := Scalar.indexCast v1458
  let c112_983 : Index := 112#32
  ![v1480.toNat, 112]
def k0_off19 (i : grid0.Coords) (c0_i32_242 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v390 : BitVec 32 := Scalar.addi v2 c0_i32_242
  let c0_i32_244 : BitVec 32 := 0#32
  let c0_i32_245 : BitVec 32 := 0#32
  ![v390.toNat, 0, 0]
def k0_off19_at (r : Fin 4) : BitVec 32 :=
  if r.val < 2 then
    if r.val < 1 then
      0#32
    else
      1#32
  else
    if r.val < 3 then
      254#32
    else
      255#32
@[reducible] def k0_t3_loop : Scf.Loop 32 :=
  let c0_i32_425 : BitVec 32 := 0#32
  let c200_i32_426 : BitVec 32 := 200#32
  let v655 : BitVec 32 := Scalar.addi c0_i32_425 c200_i32_426
  let c1_i32_427 : BitVec 32 := 1#32
  ⟨c0_i32_425, v655, c1_i32_427⟩
def k0_off20 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1459 : Index := Scalar.indexCast v1458
  let c0_976 : Index := 0#32
  ![v1459.toNat, 0]
def k0_off21 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1462 : Index := Scalar.indexCast v1458
  let c16_977 : Index := 16#32
  ![v1462.toNat, 16]
def k0_off22 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1465 : Index := Scalar.indexCast v1458
  let c32_978 : Index := 32#32
  ![v1465.toNat, 32]
def k0_off23 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1468 : Index := Scalar.indexCast v1458
  let c48_979 : Index := 48#32
  ![v1468.toNat, 48]
def k0_off24 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1471 : Index := Scalar.indexCast v1458
  let c64_980 : Index := 64#32
  ![v1471.toNat, 64]
def k0_off25 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1474 : Index := Scalar.indexCast v1458
  let c80_981 : Index := 80#32
  ![v1474.toNat, 80]
def k0_off26 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1477 : Index := Scalar.indexCast v1458
  let c96_982 : Index := 96#32
  ![v1477.toNat, 96]
def k0_off27 (k0_t3 : Fin k0_t3_loop.trips) : Fin 2 → Nat :=
  let c0_i32_975 : BitVec 32 := 0#32
  let c0_i32_425 : BitVec 32 := 0#32
  let c1_i32_427 : BitVec 32 := 1#32
  let arg15 : BitVec 32 := Scf.iv c0_i32_425 c1_i32_427 k0_t3
  let v1458 : BitVec 32 := Scalar.addi c0_i32_975 arg15
  let v1480 : Index := Scalar.indexCast v1458
  let c112_983 : Index := 112#32
  ![v1480.toNat, 112]
@[reducible] def k0_t4_loop : Scf.Loop 32 :=
  let c0_i32_461 : BitVec 32 := 0#32
  let c200_i32_462 : BitVec 32 := 200#32
  let v706 : BitVec 32 := Scalar.addi c0_i32_461 c200_i32_462
  let c1_i32_463 : BitVec 32 := 1#32
  ⟨c0_i32_461, v706, c1_i32_463⟩
def k0_off28 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1459 : Index := Scalar.indexCast v1458
  let c0_976 : Index := 0#32
  ![v1459.toNat, 0]
def k0_off29 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1462 : Index := Scalar.indexCast v1458
  let c16_977 : Index := 16#32
  ![v1462.toNat, 16]
def k0_off30 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1465 : Index := Scalar.indexCast v1458
  let c32_978 : Index := 32#32
  ![v1465.toNat, 32]
def k0_off31 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1468 : Index := Scalar.indexCast v1458
  let c48_979 : Index := 48#32
  ![v1468.toNat, 48]
def k0_off32 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1471 : Index := Scalar.indexCast v1458
  let c64_980 : Index := 64#32
  ![v1471.toNat, 64]
def k0_off33 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1474 : Index := Scalar.indexCast v1458
  let c80_981 : Index := 80#32
  ![v1474.toNat, 80]
def k0_off34 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1477 : Index := Scalar.indexCast v1458
  let c96_982 : Index := 96#32
  ![v1477.toNat, 96]
def k0_off35 (k0_t4 : Fin k0_t4_loop.trips) : Fin 2 → Nat :=
  let c200_i32_975 : BitVec 32 := 200#32
  let c0_i32_461 : BitVec 32 := 0#32
  let c1_i32_463 : BitVec 32 := 1#32
  let arg15 : BitVec 32 := Scf.iv c0_i32_461 c1_i32_463 k0_t4
  let v1458 : BitVec 32 := Scalar.addi c200_i32_975 arg15
  let v1480 : Index := Scalar.indexCast v1458
  let c112_983 : Index := 112#32
  ![v1480.toNat, 112]
@[reducible] def k0_t5_loop : Scf.Loop 32 :=
  let c1_i32_496 : BitVec 32 := 1#32
  let c126_i32 : BitVec 32 := 126#32
  let v756 : BitVec 32 := Scalar.addi c1_i32_496 c126_i32
  let c1_i32_497 : BitVec 32 := 1#32
  ⟨c1_i32_496, v756, c1_i32_497⟩
def k0_off36 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c400_i32_976 : BitVec 32 := 400#32
  let v1459 : BitVec 32 := Scalar.muli v2 c400_i32_976
  ![v1459.toNat]
def k0_off37 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_975 : BitVec 32 := 2#32
  let c1_i32_496 : BitVec 32 := 1#32
  let c1_i32_497 : BitVec 32 := 1#32
  let arg15 : BitVec 32 := Scf.iv c1_i32_496 c1_i32_497 k0_t5
  let v1458 : BitVec 32 := Scalar.muli c2_i32_975 arg15
  let c2_i32_1143 : BitVec 32 := 2#32
  let v1703 : BitVec 32 := Scalar.addi v1458 c2_i32_1143
  let v1704 : BitVec 32 := Scalar.addi v2 v1703
  let c400_i32_1144 : BitVec 32 := 400#32
  let v1705 : BitVec 32 := Scalar.muli v1704 c400_i32_1144
  ![v1705.toNat]
def k0_off38 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1147 : BitVec 32 := 0#32
  let c0_i32_1148 : BitVec 32 := 0#32
  ![v2.toNat, 0, 0]
@[reducible] def k0_t6_loop : Scf.Loop 32 :=
  let c0_i32_1159 : BitVec 32 := 0#32
  let c200_i32_1160 : BitVec 32 := 200#32
  let v1724 : BitVec 32 := Scalar.addi c0_i32_1159 c200_i32_1160
  let c1_i32_1161 : BitVec 32 := 1#32
  ⟨c0_i32_1159, v1724, c1_i32_1161⟩
def k0_off39 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2194 : Index := Scalar.indexCast v2193
  let c0_1484 : Index := 0#32
  ![v2194.toNat, 0]
def k0_off40 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2197 : Index := Scalar.indexCast v2193
  let c16_1485 : Index := 16#32
  ![v2197.toNat, 16]
def k0_off41 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2200 : Index := Scalar.indexCast v2193
  let c32_1486 : Index := 32#32
  ![v2200.toNat, 32]
def k0_off42 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2203 : Index := Scalar.indexCast v2193
  let c48_1487 : Index := 48#32
  ![v2203.toNat, 48]
def k0_off43 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2206 : Index := Scalar.indexCast v2193
  let c64_1488 : Index := 64#32
  ![v2206.toNat, 64]
def k0_off44 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2209 : Index := Scalar.indexCast v2193
  let c80_1489 : Index := 80#32
  ![v2209.toNat, 80]
def k0_off45 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2212 : Index := Scalar.indexCast v2193
  let c96_1490 : Index := 96#32
  ![v2212.toNat, 96]
def k0_off46 (k0_t6 : Fin k0_t6_loop.trips) : Fin 2 → Nat :=
  let c0_i32_1483 : BitVec 32 := 0#32
  let c0_i32_1159 : BitVec 32 := 0#32
  let c1_i32_1161 : BitVec 32 := 1#32
  let arg17 : BitVec 32 := Scf.iv c0_i32_1159 c1_i32_1161 k0_t6
  let v2193 : BitVec 32 := Scalar.addi c0_i32_1483 arg17
  let v2215 : Index := Scalar.indexCast v2193
  let c112_1491 : Index := 112#32
  ![v2215.toNat, 112]
@[reducible] def k0_t7_loop : Scf.Loop 32 :=
  let c0_i32_1195 : BitVec 32 := 0#32
  let c200_i32_1196 : BitVec 32 := 200#32
  let v1775 : BitVec 32 := Scalar.addi c0_i32_1195 c200_i32_1196
  let c1_i32_1197 : BitVec 32 := 1#32
  ⟨c0_i32_1195, v1775, c1_i32_1197⟩
def k0_off47 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2194 : Index := Scalar.indexCast v2193
  let c0_1484 : Index := 0#32
  ![v2194.toNat, 0]
def k0_off48 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2197 : Index := Scalar.indexCast v2193
  let c16_1485 : Index := 16#32
  ![v2197.toNat, 16]
def k0_off49 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2200 : Index := Scalar.indexCast v2193
  let c32_1486 : Index := 32#32
  ![v2200.toNat, 32]
def k0_off50 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2203 : Index := Scalar.indexCast v2193
  let c48_1487 : Index := 48#32
  ![v2203.toNat, 48]
def k0_off51 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2206 : Index := Scalar.indexCast v2193
  let c64_1488 : Index := 64#32
  ![v2206.toNat, 64]
def k0_off52 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2209 : Index := Scalar.indexCast v2193
  let c80_1489 : Index := 80#32
  ![v2209.toNat, 80]
def k0_off53 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2212 : Index := Scalar.indexCast v2193
  let c96_1490 : Index := 96#32
  ![v2212.toNat, 96]
def k0_off54 (k0_t7 : Fin k0_t7_loop.trips) : Fin 2 → Nat :=
  let c200_i32_1483 : BitVec 32 := 200#32
  let c0_i32_1195 : BitVec 32 := 0#32
  let c1_i32_1197 : BitVec 32 := 1#32
  let arg17 : BitVec 32 := Scf.iv c0_i32_1195 c1_i32_1197 k0_t7
  let v2193 : BitVec 32 := Scalar.addi c200_i32_1483 arg17
  let v2215 : Index := Scalar.indexCast v2193
  let c112_1491 : Index := 112#32
  ![v2215.toNat, 112]
def k0_off55 (i : grid0.Coords) (k0_t5 : Fin k0_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_975 : BitVec 32 := 2#32
  let c1_i32_496 : BitVec 32 := 1#32
  let c1_i32_497 : BitVec 32 := 1#32
  let arg15 : BitVec 32 := Scf.iv c1_i32_496 c1_i32_497 k0_t5
  let v1458 : BitVec 32 := Scalar.muli c2_i32_975 arg15
  let v1818 : BitVec 32 := Scalar.addi v2 v1458
  let c0_i32_1224 : BitVec 32 := 0#32
  let c0_i32_1225 : BitVec 32 := 0#32
  ![v1818.toNat, 0, 0]
def k0_off56 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_1228 : BitVec 32 := 2#32
  let c1_i32_496 : BitVec 32 := 1#32
  let c1_i32_497 : BitVec 32 := 1#32
  let arg15 : BitVec 32 := Scf.iv c1_i32_496 c1_i32_497 k0_t5
  let v1825 : BitVec 32 := Scalar.muli c2_i32_1228 arg15
  let c1_i32_1229 : BitVec 32 := 1#32
  let v1826 : BitVec 32 := Scalar.addi v1825 c1_i32_1229
  let c2_i32_1397 : BitVec 32 := 2#32
  let v2071 : BitVec 32 := Scalar.addi v1826 c2_i32_1397
  let v2072 : BitVec 32 := Scalar.addi v2 v2071
  let c400_i32_1398 : BitVec 32 := 400#32
  let v2073 : BitVec 32 := Scalar.muli v2072 c400_i32_1398
  ![v2073.toNat]
@[reducible] def k0_t8_loop : Scf.Loop 32 :=
  let c0_i32_1413 : BitVec 32 := 0#32
  let c200_i32_1414 : BitVec 32 := 200#32
  let v2092 : BitVec 32 := Scalar.addi c0_i32_1413 c200_i32_1414
  let c1_i32_1415 : BitVec 32 := 1#32
  ⟨c0_i32_1413, v2092, c1_i32_1415⟩
def k0_off57 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2194 : Index := Scalar.indexCast v2193
  let c0_1484 : Index := 0#32
  ![v2194.toNat, 0]
def k0_off58 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2197 : Index := Scalar.indexCast v2193
  let c16_1485 : Index := 16#32
  ![v2197.toNat, 16]
def k0_off59 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2200 : Index := Scalar.indexCast v2193
  let c32_1486 : Index := 32#32
  ![v2200.toNat, 32]
def k0_off60 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2203 : Index := Scalar.indexCast v2193
  let c48_1487 : Index := 48#32
  ![v2203.toNat, 48]
def k0_off61 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2206 : Index := Scalar.indexCast v2193
  let c64_1488 : Index := 64#32
  ![v2206.toNat, 64]
def k0_off62 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2209 : Index := Scalar.indexCast v2193
  let c80_1489 : Index := 80#32
  ![v2209.toNat, 80]
def k0_off63 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2212 : Index := Scalar.indexCast v2193
  let c96_1490 : Index := 96#32
  ![v2212.toNat, 96]
def k0_off64 (k0_t8 : Fin k0_t8_loop.trips) : Fin 2 → Nat :=
  let c0_i32_1483 : BitVec 32 := 0#32
  let c0_i32_1413 : BitVec 32 := 0#32
  let c1_i32_1415 : BitVec 32 := 1#32
  let arg17 : BitVec 32 := Scf.iv c0_i32_1413 c1_i32_1415 k0_t8
  let v2193 : BitVec 32 := Scalar.addi c0_i32_1483 arg17
  let v2215 : Index := Scalar.indexCast v2193
  let c112_1491 : Index := 112#32
  ![v2215.toNat, 112]
@[reducible] def k0_t9_loop : Scf.Loop 32 :=
  let c0_i32_1449 : BitVec 32 := 0#32
  let c200_i32_1450 : BitVec 32 := 200#32
  let v2143 : BitVec 32 := Scalar.addi c0_i32_1449 c200_i32_1450
  let c1_i32_1451 : BitVec 32 := 1#32
  ⟨c0_i32_1449, v2143, c1_i32_1451⟩
def k0_off65 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2194 : Index := Scalar.indexCast v2193
  let c0_1484 : Index := 0#32
  ![v2194.toNat, 0]
def k0_off66 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2197 : Index := Scalar.indexCast v2193
  let c16_1485 : Index := 16#32
  ![v2197.toNat, 16]
def k0_off67 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2200 : Index := Scalar.indexCast v2193
  let c32_1486 : Index := 32#32
  ![v2200.toNat, 32]
def k0_off68 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2203 : Index := Scalar.indexCast v2193
  let c48_1487 : Index := 48#32
  ![v2203.toNat, 48]
def k0_off69 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2206 : Index := Scalar.indexCast v2193
  let c64_1488 : Index := 64#32
  ![v2206.toNat, 64]
def k0_off70 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2209 : Index := Scalar.indexCast v2193
  let c80_1489 : Index := 80#32
  ![v2209.toNat, 80]
def k0_off71 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2212 : Index := Scalar.indexCast v2193
  let c96_1490 : Index := 96#32
  ![v2212.toNat, 96]
def k0_off72 (k0_t9 : Fin k0_t9_loop.trips) : Fin 2 → Nat :=
  let c200_i32_1483 : BitVec 32 := 200#32
  let c0_i32_1449 : BitVec 32 := 0#32
  let c1_i32_1451 : BitVec 32 := 1#32
  let arg17 : BitVec 32 := Scf.iv c0_i32_1449 c1_i32_1451 k0_t9
  let v2193 : BitVec 32 := Scalar.addi c200_i32_1483 arg17
  let v2215 : Index := Scalar.indexCast v2193
  let c112_1491 : Index := 112#32
  ![v2215.toNat, 112]
def k0_off73 (i : grid0.Coords) (k0_t5 : Fin k0_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_1228 : BitVec 32 := 2#32
  let c1_i32_496 : BitVec 32 := 1#32
  let c1_i32_497 : BitVec 32 := 1#32
  let arg15 : BitVec 32 := Scf.iv c1_i32_496 c1_i32_497 k0_t5
  let v1825 : BitVec 32 := Scalar.muli c2_i32_1228 arg15
  let c1_i32_1229 : BitVec 32 := 1#32
  let v1826 : BitVec 32 := Scalar.addi v1825 c1_i32_1229
  let v2186 : BitVec 32 := Scalar.addi v2 v1826
  let c0_i32_1478 : BitVec 32 := 0#32
  let c0_i32_1479 : BitVec 32 := 0#32
  ![v2186.toNat, 0, 0]
def k0_off74 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_667 : BitVec 32 := 0#32
  let c0_i32_668 : BitVec 32 := 0#32
  ![v2.toNat, 0, 0]
@[reducible] def k0_t10_loop : Scf.Loop 32 :=
  let c0_i32_679 : BitVec 32 := 0#32
  let c200_i32_680 : BitVec 32 := 200#32
  let v1016 : BitVec 32 := Scalar.addi c0_i32_679 c200_i32_680
  let c1_i32_681 : BitVec 32 := 1#32
  ⟨c0_i32_679, v1016, c1_i32_681⟩
def k0_off75 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1459 : Index := Scalar.indexCast v1458
  let c0_976 : Index := 0#32
  ![v1459.toNat, 0]
def k0_off76 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1462 : Index := Scalar.indexCast v1458
  let c16_977 : Index := 16#32
  ![v1462.toNat, 16]
def k0_off77 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1465 : Index := Scalar.indexCast v1458
  let c32_978 : Index := 32#32
  ![v1465.toNat, 32]
def k0_off78 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1468 : Index := Scalar.indexCast v1458
  let c48_979 : Index := 48#32
  ![v1468.toNat, 48]
def k0_off79 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1471 : Index := Scalar.indexCast v1458
  let c64_980 : Index := 64#32
  ![v1471.toNat, 64]
def k0_off80 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1474 : Index := Scalar.indexCast v1458
  let c80_981 : Index := 80#32
  ![v1474.toNat, 80]
def k0_off81 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1477 : Index := Scalar.indexCast v1458
  let c96_982 : Index := 96#32
  ![v1477.toNat, 96]
def k0_off82 (k0_t10 : Fin k0_t10_loop.trips) : Fin 2 → Nat :=
  let c0_i32_975 : BitVec 32 := 0#32
  let c0_i32_679 : BitVec 32 := 0#32
  let c1_i32_681 : BitVec 32 := 1#32
  let arg15 : BitVec 32 := Scf.iv c0_i32_679 c1_i32_681 k0_t10
  let v1458 : BitVec 32 := Scalar.addi c0_i32_975 arg15
  let v1480 : Index := Scalar.indexCast v1458
  let c112_983 : Index := 112#32
  ![v1480.toNat, 112]
@[reducible] def k0_t11_loop : Scf.Loop 32 :=
  let c0_i32_715 : BitVec 32 := 0#32
  let c200_i32_716 : BitVec 32 := 200#32
  let v1067 : BitVec 32 := Scalar.addi c0_i32_715 c200_i32_716
  let c1_i32_717 : BitVec 32 := 1#32
  ⟨c0_i32_715, v1067, c1_i32_717⟩
def k0_off83 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1459 : Index := Scalar.indexCast v1458
  let c0_976 : Index := 0#32
  ![v1459.toNat, 0]
def k0_off84 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1462 : Index := Scalar.indexCast v1458
  let c16_977 : Index := 16#32
  ![v1462.toNat, 16]
def k0_off85 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1465 : Index := Scalar.indexCast v1458
  let c32_978 : Index := 32#32
  ![v1465.toNat, 32]
def k0_off86 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1468 : Index := Scalar.indexCast v1458
  let c48_979 : Index := 48#32
  ![v1468.toNat, 48]
def k0_off87 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1471 : Index := Scalar.indexCast v1458
  let c64_980 : Index := 64#32
  ![v1471.toNat, 64]
def k0_off88 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1474 : Index := Scalar.indexCast v1458
  let c80_981 : Index := 80#32
  ![v1474.toNat, 80]
def k0_off89 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1477 : Index := Scalar.indexCast v1458
  let c96_982 : Index := 96#32
  ![v1477.toNat, 96]
def k0_off90 (k0_t11 : Fin k0_t11_loop.trips) : Fin 2 → Nat :=
  let c200_i32_975 : BitVec 32 := 200#32
  let c0_i32_715 : BitVec 32 := 0#32
  let c1_i32_717 : BitVec 32 := 1#32
  let arg15 : BitVec 32 := Scf.iv c0_i32_715 c1_i32_717 k0_t11
  let v1458 : BitVec 32 := Scalar.addi c200_i32_975 arg15
  let v1480 : Index := Scalar.indexCast v1458
  let c112_983 : Index := 112#32
  ![v1480.toNat, 112]
@[reducible] def k0_t12_loop : Scf.Loop 32 :=
  let c0_i32_896 : BitVec 32 := 0#32
  let c200_i32_897 : BitVec 32 := 200#32
  let v1345 : BitVec 32 := Scalar.addi c0_i32_896 c200_i32_897
  let c1_i32_898 : BitVec 32 := 1#32
  ⟨c0_i32_896, v1345, c1_i32_898⟩
def k0_off91 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1459 : Index := Scalar.indexCast v1458
  let c0_976 : Index := 0#32
  ![v1459.toNat, 0]
def k0_off92 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1462 : Index := Scalar.indexCast v1458
  let c16_977 : Index := 16#32
  ![v1462.toNat, 16]
def k0_off93 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1465 : Index := Scalar.indexCast v1458
  let c32_978 : Index := 32#32
  ![v1465.toNat, 32]
def k0_off94 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1468 : Index := Scalar.indexCast v1458
  let c48_979 : Index := 48#32
  ![v1468.toNat, 48]
def k0_off95 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1471 : Index := Scalar.indexCast v1458
  let c64_980 : Index := 64#32
  ![v1471.toNat, 64]
def k0_off96 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1474 : Index := Scalar.indexCast v1458
  let c80_981 : Index := 80#32
  ![v1474.toNat, 80]
def k0_off97 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1477 : Index := Scalar.indexCast v1458
  let c96_982 : Index := 96#32
  ![v1477.toNat, 96]
def k0_off98 (k0_t12 : Fin k0_t12_loop.trips) : Fin 2 → Nat :=
  let c0_i32_975 : BitVec 32 := 0#32
  let c0_i32_896 : BitVec 32 := 0#32
  let c1_i32_898 : BitVec 32 := 1#32
  let arg15 : BitVec 32 := Scf.iv c0_i32_896 c1_i32_898 k0_t12
  let v1458 : BitVec 32 := Scalar.addi c0_i32_975 arg15
  let v1480 : Index := Scalar.indexCast v1458
  let c112_983 : Index := 112#32
  ![v1480.toNat, 112]
@[reducible] def k0_t13_loop : Scf.Loop 32 :=
  let c0_i32_932 : BitVec 32 := 0#32
  let c200_i32_933 : BitVec 32 := 200#32
  let v1396 : BitVec 32 := Scalar.addi c0_i32_932 c200_i32_933
  let c1_i32_934 : BitVec 32 := 1#32
  ⟨c0_i32_932, v1396, c1_i32_934⟩
def k0_off99 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1459 : Index := Scalar.indexCast v1458
  let c0_976 : Index := 0#32
  ![v1459.toNat, 0]
def k0_off100 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1462 : Index := Scalar.indexCast v1458
  let c16_977 : Index := 16#32
  ![v1462.toNat, 16]
def k0_off101 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1465 : Index := Scalar.indexCast v1458
  let c32_978 : Index := 32#32
  ![v1465.toNat, 32]
def k0_off102 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1468 : Index := Scalar.indexCast v1458
  let c48_979 : Index := 48#32
  ![v1468.toNat, 48]
def k0_off103 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1471 : Index := Scalar.indexCast v1458
  let c64_980 : Index := 64#32
  ![v1471.toNat, 64]
def k0_off104 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1474 : Index := Scalar.indexCast v1458
  let c80_981 : Index := 80#32
  ![v1474.toNat, 80]
def k0_off105 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1477 : Index := Scalar.indexCast v1458
  let c96_982 : Index := 96#32
  ![v1477.toNat, 96]
def k0_off106 (k0_t13 : Fin k0_t13_loop.trips) : Fin 2 → Nat :=
  let c200_i32_975 : BitVec 32 := 200#32
  let c0_i32_932 : BitVec 32 := 0#32
  let c1_i32_934 : BitVec 32 := 1#32
  let arg15 : BitVec 32 := Scf.iv c0_i32_932 c1_i32_934 k0_t13
  let v1458 : BitVec 32 := Scalar.addi c200_i32_975 arg15
  let v1480 : Index := Scalar.indexCast v1458
  let c112_983 : Index := 112#32
  ![v1480.toNat, 112]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S16384 : Shape := ⟨1, ![16384]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x128 : Shape := ⟨3, ![16384, 200, 128]⟩
abbrev S16384x128 : Shape := ⟨2, ![16384, 128]⟩
abbrev S16384x1 : Shape := ⟨2, ![16384, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S16384x200, .i32⟩
  | .hbm, ⟨7, _⟩ => ⟨S16384x200, .i1⟩
  | .hbm, ⟨8, _⟩ => ⟨S_, .i32⟩
  | .hbm, ⟨9, _⟩ => ⟨S16384x200, .i32⟩
  | .hbm, ⟨10, _⟩ => ⟨S16384x200, .i32⟩
  | .hbm, ⟨11, _⟩ => ⟨S16384x200, .i32⟩
  | .hbm, ⟨12, _⟩ => ⟨S16384x200x1, .i32⟩
  | .hbm, ⟨13, _⟩ => ⟨S1, .i32⟩
  | .hbm, ⟨14, _⟩ => ⟨S_, .i32⟩
  | .hbm, ⟨15, _⟩ => ⟨S16384x200x1, .i32⟩
  | .hbm, ⟨16, _⟩ => ⟨S16384x200x1, .i1⟩
  | .hbm, ⟨17, _⟩ => ⟨S1x1x1, .i32⟩
  | .hbm, ⟨18, _⟩ => ⟨S16384x200x1, .i32⟩
  | .hbm, ⟨19, _⟩ => ⟨S16384x200x1, .i1⟩
  | .hbm, ⟨20, _⟩ => ⟨S16384x200x1, .i1⟩
  | .hbm, ⟨21, _⟩ => ⟨S_, .i1⟩
  | .hbm, ⟨22, _⟩ => ⟨S16384x200, .i1⟩
  | .hbm, ⟨23, _⟩ => ⟨S16384x200x128, .f32⟩
  | .hbm, ⟨24, _⟩ => ⟨S16384x200x128, .i1⟩
  | .hbm, ⟨25, _⟩ => ⟨S_, .f32⟩
  | .hbm, ⟨26, _⟩ => ⟨S16384x200x128, .f32⟩
  | .hbm, ⟨27, _⟩ => ⟨S16384x200x128, .f32⟩
  | .hbm, ⟨28, _⟩ => ⟨S_, .i32⟩
  | .hbm, ⟨29, _⟩ => ⟨S16384x200, .i32⟩
  | .hbm, ⟨30, _⟩ => ⟨S16384x200, .i1⟩
  | .hbm, ⟨31, _⟩ => ⟨S16384x200x1, .i1⟩
  | .hbm, ⟨32, _⟩ => ⟨S16384x200x1, .f32⟩
  | .hbm, ⟨33, _⟩ => ⟨S16384x200x128, .f32⟩
  | .hbm, ⟨34, _⟩ => ⟨S16384x200x128, .f32⟩
  | .hbm, ⟨35, _⟩ => ⟨S_, .f32⟩
  | .hbm, ⟨36, _⟩ => ⟨S16384x128, .f32⟩
  | .hbm, ⟨37, _⟩ => ⟨S16384x1, .f32⟩
  | .hbm, ⟨38, _⟩ => ⟨S16384x128, .f32⟩
  | .hbm, ⟨39, _⟩ => ⟨S16384x128, .f32⟩
  | .hbm, ⟨40, _⟩ => ⟨S128x128, .f32⟩
  | .hbm, ⟨41, _⟩ => ⟨S16384x128, .f32⟩
  | .hbm, ⟨42, _⟩ => ⟨S1x128, .f32⟩
  | .hbm, ⟨43, _⟩ => ⟨S16384x128, .f32⟩
  | .hbm, ⟨44, _⟩ => ⟨S16384x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_c : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Program.lean ====
/-
  The pooling program of one vector subcore, written once over its buffers and semaphores: a step's parts (waiting for
  an index list, firing its five row gathers, counting the pad indices, waiting for the gathers, reducing and storing
  two bags) and their composition. `Equal.lean` shows the printed program IS this one.
-/
module

public import proofs.«01_k».proof.Proof.Gen.KernelIdeal
public import proofs.«01_k».proof.Proof.Gen.KernelIdeal.Skeleton

@[expose] public section

noncomputable section

namespace Cert.KernelIdeal.Pool

open Cert.KernelIdeal Cert.KernelIdeal.Gen Idealize.ShloMosaic Idealize.SL.Sem

variable {F : FTy → Type} [FloatOps F] {i : grid0.Coords}

/-- A program of the vector subcore at coordinates `i`. -/
abbrev Tile (F : FTy → Type) [FloatOps F] (i : grid0.Coords) (α : Type) :=
  Prog (TpuEff nD τ sig (Elt F) Λ₀ (.scVector ((i 0).castLE hcore0) ((i 1).castLE hsub0))) α

abbrev IdxHbm := Memref sig .scVector .hbm S3276800 .i32
abbrev TblHbm := Memref sig .scVector .hbm S100000x128 .f32
abbrev OutHbm := Memref sig .scVector .hbm S8192x2x128 .f32
abbrev IdxBuf := Memref sig .scVector .vmem S400 .i32
abbrev RowBuf := Memref sig .scVector .vmem S400x128 .f32
abbrev OutBuf := Memref sig .scVector .vmem S2x128 .f32
abbrev PadBuf := Memref sig .scVector .vmem S128 .f32

/-- Four hundred consecutive indices of the flat index array. -/
abbrev xSlice (x : IdxHbm) (off : Fin 1 → ℕ) (h : ∀ a, off a + S400.size a ≤ S3276800.size a) :
    Memref sig .scVector .hbm S400 .i32 := x.slice (Rect.unit (s := S3276800) off S400.size h) (fun _ => rfl)

/-- One step's block of the pooled array: two bags. -/
abbrev oSlice (o : OutHbm) (off : Fin 3 → ℕ) (h : ∀ a, off a + S1x2x128.size a ≤ S8192x2x128.size a) :
    Memref sig .scVector .hbm S2x128 .f32 :=
  (o.slice (Rect.unit (s := S8192x2x128) off S1x2x128.size h) (fun _ => rfl)).squeeze S2x128 squeezes_S1x2x128_S2x128

/-- The whole table, as the gathers name it. -/
abbrev tblAll (t : TblHbm) : TblHbm :=
  t.slice (Rect.unit (s := S100000x128) ![0, 0] S100000x128.size inb_S100000x128_S100000x128_0_0) (fun _ => rfl)

/-- The table's first row. -/
abbrev tblPad (t : TblHbm) : Memref sig .scVector .hbm S128 .f32 :=
  (t.slice (Rect.unit (s := S100000x128) ![0, 0] S1x128.size inb_S100000x128_S1x128_0_0) (fun _ => rfl)).squeeze S128
    squeezes_S1x128_S128

theorem inb80x {n : ℕ} (h : n + 80 ≤ 400) : ∀ a, (![n, 0] : Fin 2 → ℕ) a + S80x128.size a ≤ S400x128.size a := fun
  | 0 => h
  | 1 => Nat.le_refl 128

theorem inb80 {n : ℕ} (h : n + 80 ≤ 400) : ∀ a, (![n] : Fin 1 → ℕ) a + S80.size a ≤ S400.size a := fun
  | 0 => h

theorem inb16 {n : ℕ} (h : n + 16 ≤ 400) : ∀ a, (![n] : Fin 1 → ℕ) a + S16.size a ≤ S400.size a := fun
  | 0 => h

theorem inbPad {n : ℕ} (h : n + 16 ≤ 128) : ∀ a, (![n] : Fin 1 → ℕ) a + S16.size a ≤ S128.size a := fun
  | 0 => h

theorem inbOut {g n : ℕ} (hg : g < 2) (h : n + 16 ≤ 128) :
    ∀ a, (![g, n] : Fin 2 → ℕ) a + S1x16.size a ≤ S2x128.size a := fun
  | 0 => hg
  | 1 => h

/-- Rows `n … n + 79` of a row buffer. -/
abbrev rowsAt (r : RowBuf) (n : ℕ) (h : n + 80 ≤ 400) : Memref sig .scVector .vmem S80x128 .f32 :=
  r.slice (Rect.unit (s := S400x128) ![n, 0] S80x128.size (inb80x h)) (fun _ => rfl)

/-- Entries `n … n + 79` of an index list. -/
abbrev listAt (x : IdxBuf) (n : ℕ) (h : n + 80 ≤ 400) : Memref sig .scVector .vmem S80 .i32 :=
  x.slice (Rect.unit (s := S400) ![n] S80.size (inb80 h)) (fun _ => rfl)

/-- Start copying four hundred indices into an index list. -/
def copyX (x : IdxHbm) (off : Fin 1 → ℕ) (hoff : ∀ a, off a + S400.size a ≤ S3276800.size a) (xv : IdxBuf) (hxv : xv.IsWhole) (sem : DmaSem sig) : Tile F i PUnit :=
  Prog.lift (.enqueueDma (xSlice x off hoff) (.here xv) (.dma sem) (View.wordExact_bits rfl) hxv.wordExact ⟨Or.inl rfl, trivial⟩)

/-- Wait for it. -/
def waitX (x : IdxHbm) (off : Fin 1 → ℕ) (hoff : ∀ a, off a + S400.size a ≤ S3276800.size a) (xv : IdxBuf) (hxv : xv.IsWhole) (sem : DmaSem sig) : Tile F i PUnit :=
  Prog.lift (.waitDma2 sem (xSlice x off hoff) xv (View.wordExact_bits rfl) hxv.wordExact)

/-- Start gathering eighty rows of the table. -/
def fire1 (t : TblHbm) (xv : IdxBuf) (r : RowBuf) (sem : DmaSem sig) (n : ℕ) (h : n + 80 ≤ 400) : Tile F i PUnit :=
  SparseCore.enqueueIndirectGather rfl (tblAll t) (rowsAt r n h) gathers_S100000x128_S80x128 (listAt xv n h) rfl sem
    (View.wordExact_bits rfl) rfl (Or.inl rfl)

/-- Wait for eighty rows' worth of gathers. -/
def await1 (t : TblHbm) (r : RowBuf) (sem : DmaSem sig) (n : ℕ) (h : n + 80 ≤ 400) : Tile F i PUnit :=
  SparseCore.waitIndirectGather sem (tblAll t) (rowsAt r n h) (View.wordExact_bits rfl) (View.wordExact_bits rfl)

/-- Start the five gathers of a step. -/
def fire (t : TblHbm) (xv : IdxBuf) (r : RowBuf) (sem : DmaSem sig) : Tile F i PUnit :=
  fire1 t xv r sem 0 (by decide) >>= fun _ => fire1 t xv r sem 80 (by decide) >>= fun _ =>
  fire1 t xv r sem 160 (by decide) >>= fun _ => fire1 t xv r sem 240 (by decide) >>= fun _ =>
  fire1 t xv r sem 320 (by decide)

/-- Wait for the five gathers of a step. -/
def await (t : TblHbm) (r : RowBuf) (sem : DmaSem sig) : Tile F i PUnit :=
  await1 t r sem 0 (by decide) >>= fun _ => await1 t r sem 80 (by decide) >>= fun _ =>
  await1 t r sem 160 (by decide) >>= fun _ => await1 t r sem 240 (by decide) >>= fun _ =>
  await1 t r sem 320 (by decide)

/-- The mask of the first eight lanes. -/
def loMask : IVec S16 1 := cmpi .slt (iota .scVector S16 32 [0] iota_S16_d0_w32_scVector) (broadcast S16 8#32)

/-- One where an index is the pad index, zero elsewhere. -/
def flag (t : IVec S16 32) : IVec S16 32 :=
  select (cmpi .eq t (broadcast S16 0#32)) (broadcast S16 1#32) (broadcast S16 0#32)

/-- Block `j` of an index list added to the two bags' lane counts: the first bag ends in the middle of block 12. -/
def tally (j : ℕ) (c : IVec S16 32 × IVec S16 32) (t : IVec S16 32) : IVec S16 32 × IVec S16 32 :=
  if j < 12 then (addi c.1 (flag t), c.2)
  else if j = 12 then
    (addi c.1 (select loMask (flag t) (broadcast S16 0#32)), addi c.2 (select loMask (broadcast S16 0#32) (flag t)))
  else (c.1, addi c.2 (flag t))

/-- The last `n` blocks of an index list counted. -/
def countGo (xv : IdxBuf) : (n : ℕ) → n ≤ 25 → IVec S16 32 × IVec S16 32 → Tile F i (IVec S16 32 × IVec S16 32)
  | 0, _, c => pure c
  | n + 1, h, c =>
    (Prog.lift (.load xv (Rect.unit (s := S400) ![16 * (24 - n)] S16.size (inb16 (by omega))).toLoadRect
      (View.loadsAt_vmem h_S16)) : Tile F i (Vec F S16 .i32)) >>= fun t => countGo xv n (Nat.le_of_succ_le h) (tally (24 - n) c t)

/-- A bag's lane counts added up, as a float. -/
def total (c : IVec S16 32) : F .f32 := Scalar.sitofp .f32 (extractAt ![15] (scan .sum c) inpos_S16_p15)

/-- The pad indices of the two bags counted. -/
def count (xv : IdxBuf) : Tile F i (IVec S16 32 × IVec S16 32) :=
  countGo xv 25 (Nat.le_refl _) (broadcast S16 0#32, broadcast S16 0#32)

/-- Eight lane vectors: the 128 columns. -/
abbrev Accs (F : FTy → Type) [FloatOps F] := FVec F S16 .f32 × FVec F S16 .f32 × FVec F S16 .f32 × FVec F S16 .f32 × FVec F S16 .f32 ×
  FVec F S16 .f32 × FVec F S16 .f32 × FVec F S16 .f32

/-- Nought in every lane. -/
abbrev noughts : FVec F S16 .f32 := broadcast S16 (Scalar.ofBits .f32 0x00000000#32)

abbrev red : Scf.Loop 32 := ⟨0#32, Scalar.addi 0#32 200#32, 1#32⟩

theorem red_ok : red.OK := Gen.k0_t1_ok

/-- The row that trip `k` adds to bag `g`'s sum. -/
abbrev redRow (g : BitVec 32) (k : Fin red.trips) : ℕ :=
  (Scalar.indexCast (Scalar.addi g (Scf.iv 0#32 1#32 k))).toNat

/-- A trip of the reduction: a row's eight lane vectors added to the running sums. -/
def redBody (r : RowBuf) (g : BitVec 32) (hg : ∀ (k : Fin red.trips) (n : ℕ), n + 16 ≤ 128 → ∀ a, (![redRow g k, n] : Fin 2 → ℕ) a + S1x16.size a ≤ S400x128.size a) :
    Fin red.trips → Accs F → Tile F i (Accs F) := fun k (a0, a1, a2, a3, a4, a5, a6, a7) => do
  let l0 : Vec F S1x16 .f32 ← Prog.lift (.load r (Rect.unit (s := S400x128) ![redRow g k, 0] S1x16.size (hg k 0 (by decide))).toLoadRect (View.loadsAt_vmem h_S1x16))
  let l1 : Vec F S1x16 .f32 ← Prog.lift (.load r (Rect.unit (s := S400x128) ![redRow g k, 16] S1x16.size (hg k 16 (by decide))).toLoadRect (View.loadsAt_vmem h_S1x16))
  let l2 : Vec F S1x16 .f32 ← Prog.lift (.load r (Rect.unit (s := S400x128) ![redRow g k, 32] S1x16.size (hg k 32 (by decide))).toLoadRect (View.loadsAt_vmem h_S1x16))
  let l3 : Vec F S1x16 .f32 ← Prog.lift (.load r (Rect.unit (s := S400x128) ![redRow g k, 48] S1x16.size (hg k 48 (by decide))).toLoadRect (View.loadsAt_vmem h_S1x16))
  let l4 : Vec F S1x16 .f32 ← Prog.lift (.load r (Rect.unit (s := S400x128) ![redRow g k, 64] S1x16.size (hg k 64 (by decide))).toLoadRect (View.loadsAt_vmem h_S1x16))
  let l5 : Vec F S1x16 .f32 ← Prog.lift (.load r (Rect.unit (s := S400x128) ![redRow g k, 80] S1x16.size (hg k 80 (by decide))).toLoadRect (View.loadsAt_vmem h_S1x16))
  let l6 : Vec F S1x16 .f32 ← Prog.lift (.load r (Rect.unit (s := S400x128) ![redRow g k, 96] S1x16.size (hg k 96 (by decide))).toLoadRect (View.loadsAt_vmem h_S1x16))
  let l7 : Vec F S1x16 .f32 ← Prog.lift (.load r (Rect.unit (s := S400x128) ![redRow g k, 112] S1x16.size (hg k 112 (by decide))).toLoadRect (View.loadsAt_vmem h_S1x16))
  pure (addf a0 (shapeCast S16 l0 shapeCasts_S1x16_S16), addf a1 (shapeCast S16 l1 shapeCasts_S1x16_S16),
    addf a2 (shapeCast S16 l2 shapeCasts_S1x16_S16), addf a3 (shapeCast S16 l3 shapeCasts_S1x16_S16),
    addf a4 (shapeCast S16 l4 shapeCasts_S1x16_S16), addf a5 (shapeCast S16 l5 shapeCasts_S1x16_S16),
    addf a6 (shapeCast S16 l6 shapeCasts_S1x16_S16), addf a7 (shapeCast S16 l7 shapeCasts_S1x16_S16))

/-- One lane vector of a bag stored: its sum less the pad row as often as it was counted. -/
def put1 (pad : PadBuf) (ov : OutBuf) (g : ℕ) (hg : g < 2) (cv : F .f32) (n : ℕ) (h : n + 16 ≤ 128) (a : FVec F S16 .f32) : Tile F i PUnit :=
  (Prog.lift (.load pad (Rect.unit (s := S128) ![n] S16.size (inbPad h)).toLoadRect (View.loadsAt_vmem h_S16)) : Tile F i (Vec F S16 .f32)) >>= fun e =>
  (Prog.lift (.load ov (Rect.unit (s := S2x128) ![g, n] S1x16.size (inbOut hg h)).toLoadRect (View.loadsAt_vmem h_S1x16)) : Tile F i (Vec F S1x16 .f32)) >>= fun _ =>
  Prog.lift (.store ov (Rect.unit (s := S2x128) ![g, n] S1x16.size (inbOut hg h)) (shapeCast S1x16 (subf a (mulf (broadcast S16 cv) e)) shapeCasts_S16_S1x16) Finset.univ (View.stores_vmem_bits_univ h_S1x16 rfl) (.inl rfl))

/-- A bag stored: its eight lane vectors. -/
def put (pad : PadBuf) (ov : OutBuf) (g : ℕ) (hg : g < 2) (cv : F .f32) : Accs F → Tile F i PUnit :=
  fun (a0, a1, a2, a3, a4, a5, a6, a7) =>
  put1 pad ov g hg cv 0 (by decide) a0 >>= fun _ => put1 pad ov g hg cv 16 (by decide) a1 >>= fun _ =>
  put1 pad ov g hg cv 32 (by decide) a2 >>= fun _ => put1 pad ov g hg cv 48 (by decide) a3 >>= fun _ =>
  put1 pad ov g hg cv 64 (by decide) a4 >>= fun _ => put1 pad ov g hg cv 80 (by decide) a5 >>= fun _ =>
  put1 pad ov g hg cv 96 (by decide) a6 >>= fun _ => put1 pad ov g hg cv 112 (by decide) a7

theorem redRow_eq (g : BitVec 32) (hg : g.toNat ≤ 200) (k : Fin red.trips) : redRow g k = g.toNat + k.val := by
  have hk : k.val < 200 := k.isLt
  show (g + (0#32 + BitVec.ofNat 32 k.val * 1#32)).toNat = _
  simp only [BitVec.toNat_add, BitVec.toNat_mul, BitVec.toNat_ofNat]
  omega

theorem red_inb (g : BitVec 32) (hg : g.toNat ≤ 200) (k : Fin red.trips) (n : ℕ) (h : n + 16 ≤ 128) :
    ∀ a, (![redRow g k, n] : Fin 2 → ℕ) a + S1x16.size a ≤ S400x128.size a := fun
  | 0 => by
    have hk : k.val < 200 := k.isLt
    show redRow g k + 1 ≤ 400
    rw [redRow_eq g hg]
    omega
  | 1 => h

/-- A bag of a step summed and stored. -/
def bag (r : RowBuf) (pad : PadBuf) (ov : OutBuf) (b : BitVec 32) (hb : b.toNat ≤ 200) (g : ℕ) (hg : g < 2) (cv : F .f32) : Tile F i PUnit :=
  Scf.Loop.for red red_ok ((noughts, noughts, noughts, noughts, noughts, noughts, noughts, noughts) : Accs F)
    (redBody r b (red_inb b hb)) >>= put pad ov g hg cv

/-- The two bags of a step. -/
def reduce (r : RowBuf) (pad : PadBuf) (ov : OutBuf) (c : IVec S16 32 × IVec S16 32) : Tile F i PUnit :=
  bag r pad ov 0#32 (by decide) 0 (by decide) (total c.1) >>= fun _ => bag r pad ov 200#32 (by decide) 1 (by decide) (total c.2)

/-- Start copying a step's two bags out. -/
def copyOut (o : OutHbm) (off : Fin 3 → ℕ) (hoff : ∀ a, off a + S1x2x128.size a ≤ S8192x2x128.size a) (ov : OutBuf) (hov : ov.IsWhole) (sem : DmaSem sig) : Tile F i PUnit :=
  Prog.lift (.enqueueDma ov (.here (oSlice o off hoff)) (.dma sem) hov.wordExact ((View.wordExact_bits rfl).reshape _ _) ⟨Or.inl rfl, trivial⟩)

/-- Wait for it. -/
def waitOut (o : OutHbm) (off : Fin 3 → ℕ) (hoff : ∀ a, off a + S1x2x128.size a ≤ S8192x2x128.size a) (ov : OutBuf) (hov : ov.IsWhole) (sem : DmaSem sig) : Tile F i PUnit :=
  Prog.lift (.waitDma2 sem ov (oSlice o off hoff) hov.wordExact ((View.wordExact_bits rfl).reshape _ _))

/-- The next step's indices awaited and its gathers started. -/
def head (x : IdxHbm) (t : TblHbm) (xn : IdxBuf) (hxn : xn.IsWhole) (rn : RowBuf) (sxn sgn : DmaSem sig)
    (ow : Fin 1 → ℕ) (how : ∀ a, ow a + S400.size a ≤ S3276800.size a) : Tile F i PUnit :=
  waitX x ow how xn hxn sxn >>= fun _ => fire t xn rn sgn

/-- This step's pad indices counted and its gathers awaited. -/
def tail (t : TblHbm) (xv : IdxBuf) (r : RowBuf) (sg : DmaSem sig) : Tile F i (IVec S16 32 × IVec S16 32) :=
  count xv >>= fun c => await t r sg >>= fun _ => pure c

/-- The two bags reduced, stored and sent out. -/
def finish (o : OutHbm) (pad : PadBuf) (r : RowBuf) (ov : OutBuf) (hov : ov.IsWhole) (so : DmaSem sig)
    (oo : Fin 3 → ℕ) (hoo : ∀ a, oo a + S1x2x128.size a ≤ S8192x2x128.size a) (c : IVec S16 32 × IVec S16 32) : Tile F i PUnit :=
  reduce r pad ov c >>= fun _ => copyOut o oo hoo ov hov so

/-- A step of the pipeline's steady state: the next step's gathers started, this step's indices counted and gathers
    awaited, the indices of the step after next fetched, the output buffer's previous use awaited, the bags finished. -/
def step (x : IdxHbm) (t : TblHbm) (o : OutHbm) (pad : PadBuf)
    (xv xn : IdxBuf) (hxv : xv.IsWhole) (hxn : xn.IsWhole) (r rn : RowBuf) (ov : OutBuf) (hov : ov.IsWhole)
    (sx sxn sg sgn so : DmaSem sig)
    (ow : Fin 1 → ℕ) (how : ∀ a, ow a + S400.size a ≤ S3276800.size a)
    (ox : Fin 1 → ℕ) (hox : ∀ a, ox a + S400.size a ≤ S3276800.size a)
    (od : Fin 3 → ℕ) (hod : ∀ a, od a + S1x2x128.size a ≤ S8192x2x128.size a)
    (oo : Fin 3 → ℕ) (hoo : ∀ a, oo a + S1x2x128.size a ≤ S8192x2x128.size a) : Tile F i PUnit :=
  head x t xn hxn rn sxn sgn ow how >>= fun _ => tail t xv r sg >>= fun c => copyX x ox hox xv hxv sx >>= fun _ =>
  waitOut o od hod ov hov so >>= fun _ => finish o pad r ov hov so oo hoo c

/-- A step before the output buffer has been used. -/
def stepFirst (x : IdxHbm) (t : TblHbm) (o : OutHbm) (pad : PadBuf)
    (xv xn : IdxBuf) (hxv : xv.IsWhole) (hxn : xn.IsWhole) (r rn : RowBuf) (ov : OutBuf) (hov : ov.IsWhole)
    (sx sxn sg sgn so : DmaSem sig)
    (ow : Fin 1 → ℕ) (how : ∀ a, ow a + S400.size a ≤ S3276800.size a)
    (ox : Fin 1 → ℕ) (hox : ∀ a, ox a + S400.size a ≤ S3276800.size a)
    (oo : Fin 3 → ℕ) (hoo : ∀ a, oo a + S1x2x128.size a ≤ S8192x2x128.size a) : Tile F i PUnit :=
  head x t xn hxn rn sxn sgn ow how >>= fun _ => tail t xv r sg >>= fun c => copyX x ox hox xv hxv sx >>= fun _ =>
  finish o pad r ov hov so oo hoo c

/-- The start: the pad row and the first step's indices fetched, its gathers started, the second step's indices on
    their way. -/
def prologue (x : IdxHbm) (t : TblHbm) (pad : PadBuf) (hpad : pad.IsWhole) (x0 x1 : IdxBuf) (hx0 : x0.IsWhole) (hx1 : x1.IsWhole)
    (r0 : RowBuf) (sp sq sx1 sg0 : DmaSem sig) : Tile F i PUnit :=
  (Prog.lift (.enqueueDma (tblPad t) (.here pad) (.dma sp) ((View.wordExact_bits rfl).reshape _ _) hpad.wordExact ⟨Or.inl rfl, trivial⟩) : Tile F i PUnit) >>= fun _ =>
  (Prog.lift (.waitDma2 sp (tblPad t) pad ((View.wordExact_bits rfl).reshape _ _) hpad.wordExact) : Tile F i PUnit) >>= fun _ =>
  copyX x (k0_off1 i) (k0_off1_inb i) x0 hx0 sq >>= fun _ => waitX x (k0_off1 i) (k0_off1_inb i) x0 hx0 sq >>= fun _ =>
  fire t x0 r0 sg0 >>= fun _ => copyX x (k0_off2 i 1#32) (k0_off2_inb i 0) x1 hx1 sx1

/-- A one-entry semaphore of a pair. -/
abbrev semAt0 (s : DmaSems sig S2) : DmaSem sig :=
  ((s.slice (Rect.unit (s := S2) ![0] S1.size inb_S2_S1_0)).squeeze S_ squeezes_S1_S_).sem
abbrev semAt1 (s : DmaSems sig S2) : DmaSem sig :=
  ((s.slice (Rect.unit (s := S2) ![1] S1.size inb_S2_S1_1)).squeeze S_ squeezes_S1_S_).sem

section
variable (i) (arg2 : IdxHbm) (harg2 : arg2.IsWhole) (arg3 : TblHbm) (harg3 : arg3.IsWhole) (arg4 : OutHbm) (harg4 : arg4.IsWhole)
  (arg5 : IdxBuf) (harg5 : arg5.IsWhole) (arg6 : IdxBuf) (harg6 : arg6.IsWhole) (arg7 : RowBuf) (harg7 : arg7.IsWhole)
  (arg8 : RowBuf) (harg8 : arg8.IsWhole) (arg9 : OutBuf) (harg9 : arg9.IsWhole) (arg10 : OutBuf) (harg10 : arg10.IsWhole)
  (arg11 : PadBuf) (harg11 : arg11.IsWhole) (arg12 arg13 arg14 : DmaSems sig S2) (sp sq : DmaSems sig S_)

/-- A trip of the steady state: an even step and an odd one. -/
def trip (k : Fin k0_t5_loop.trips) (_ : BitVec 32) : Tile F i (BitVec 32) :=
  step arg2 arg3 arg4 arg11 arg5 arg6 harg5 harg6 arg7 arg8 arg9 harg9 (semAt0 arg12) (semAt1 arg12) (semAt0 arg13) (semAt1 arg13) (semAt0 arg14)
    (k0_off36 i) (k0_off36_inb i) (k0_off37 i k) (k0_off37_inb i k) (k0_off38 i) (k0_off38_inb i) (k0_off55 i k) (k0_off55_inb i k) >>= fun _ =>
  step arg2 arg3 arg4 arg11 arg6 arg5 harg6 harg5 arg8 arg7 arg10 harg10 (semAt1 arg12) (semAt0 arg12) (semAt1 arg13) (semAt0 arg13) (semAt1 arg14)
    (k0_off36 i) (k0_off36_inb i) (k0_off56 i k) (k0_off56_inb i k) (k0_off38 i) (k0_off38_inb i) (k0_off73 i k) (k0_off73_inb i k) >>= fun _ =>
  pure 0#32

/-- The end: the last two steps, which fetch nothing further, and both output buffers awaited. -/
def epilogue : Tile F i PUnit :=
  head arg2 arg3 arg6 harg6 arg8 (semAt1 arg12) (semAt1 arg13) (k0_off1 i) (k0_off1_inb i) >>= fun _ =>
  tail arg3 arg5 arg7 (semAt0 arg13) >>= fun c => waitOut arg4 (k0_off74 i) (k0_off74_inb i) arg9 harg9 (semAt0 arg14) >>= fun _ =>
  finish arg4 arg11 arg7 arg9 harg9 (semAt0 arg14) (k0_off19 i 254#32) (k0_off19_inb i 2) c >>= fun _ =>
  tail arg3 arg6 arg8 (semAt1 arg13) >>= fun c => waitOut arg4 (k0_off74 i) (k0_off74_inb i) arg10 harg10 (semAt1 arg14) >>= fun _ =>
  finish arg4 arg11 arg8 arg10 harg10 (semAt1 arg14) (k0_off19 i 255#32) (k0_off19_inb i 3) c >>= fun _ =>
  waitOut arg4 (k0_off74 i) (k0_off74_inb i) arg9 harg9 (semAt0 arg14) >>= fun _ =>
  waitOut arg4 (k0_off74 i) (k0_off74_inb i) arg10 harg10 (semAt1 arg14) >>= fun _ => pure ⟨⟩

/-- The whole pooling program of a vector subcore. -/
def pool : Tile F i PUnit :=
  prologue arg2 arg3 arg11 harg11 arg5 arg6 harg5 harg6 arg7 sp.sem sq.sem (semAt1 arg12) (semAt0 arg13) >>= fun _ =>
  stepFirst arg2 arg3 arg4 arg11 arg5 arg6 harg5 harg6 arg7 arg8 arg9 harg9 (semAt0 arg12) (semAt1 arg12) (semAt0 arg13) (semAt1 arg13) (semAt0 arg14)
    (k0_off1 i) (k0_off1_inb i) (k0_off2 i 2#32) (k0_off2_inb i 1) (k0_off19 i 0#32) (k0_off19_inb i 0) >>= fun _ =>
  stepFirst arg2 arg3 arg4 arg11 arg6 arg5 harg6 harg5 arg8 arg7 arg10 harg10 (semAt1 arg12) (semAt0 arg12) (semAt1 arg13) (semAt0 arg13) (semAt1 arg14)
    (k0_off1 i) (k0_off1_inb i) (k0_off2 i 3#32) (k0_off2_inb i 2) (k0_off19 i 1#32) (k0_off19_inb i 1) >>= fun _ =>
  Scf.Loop.for k0_t5_loop k0_t5_ok 0#32
    (trip i arg2 arg3 arg4 arg5 harg5 arg6 harg6 arg7 arg8 arg9 harg9 arg10 harg10 arg11 arg12 arg13 arg14) >>= fun _ =>
  epilogue i arg2 arg3 arg4 arg5 arg6 harg6 arg7 arg8 arg9 harg9 arg10 harg10 arg11 arg12 arg13 arg14

end

end Cert.KernelIdeal.Pool
-- ==== Proof.Base.lean ====
/-
  The setting of the certificate: the launch as the SparseCore launch theorem sees it, the ghost state, the vector
  subcore that runs a tile, and the resource algebra all the triples are stated in.
-/
module

public import proofs.«01_k».proof.Proof.Program
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Writes
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

/-- The handshakes' rounds. -/
abbrev UH : Type := URounds (GSem nD τ sig) ℕ
/-- The rounds of the projection's pipeline. -/
abbrev UP : Type := URounds (GSem nD τ sig) Unit
/-- The handshakes' rounds, the pipeline's, and the transfers' counters. -/
abbrev UU : Type := UH × UP × Counters

abbrev 𝒱₀ : Variants := Variants.none

abbrev cV (L : grid0.Coords) : Fin τ.nSC := (L 0).castLE hcore0
abbrev jV (L : grid0.Coords) : Fin τ.nSub := (L 1).castLE hsub0

/-- The vector subcore at grid coordinates `L`. -/
abbrev me (d : Dev nD) (L : grid0.Coords) : Thread nD τ := V d (cV L) (jV L)

/-- The index the transfers' waits are recorded under. -/
abbrev ι₀ : HIx 1 := default

/-- The resources: memory, transfers, handshakes, pipeline and counters. -/
abbrev Res (F : FTy → Type) : Type := MT nD τ sig (HIx 1) (Elt F) ℕ UU ℕ

/-- A tile's program run to a postcondition. -/
abbrev twp {F : FTy → Type} [FloatOps F] {α : Type} (d : Dev nD) (L : grid0.Coords) (p : Tile F L α) (Q : α → sProp (Res F)) : sProp (Res F) :=
  wp frame (wpE (defs₀ (F := F)) 𝒱₀ (me d L) none) Set.univ p Q

/-- What a tile owes, its waits so far recorded: each either of the launch or on the transfers' index. -/
def owing {F : FTy → Type} (d : Dev nD) (L : grid0.Coords) (O : CellTallies nD τ sig (HIx 1)) (W : Waits sig (HIx 1)) : sProp (Res F) :=
  iprop(∃ W', ⌜∀ p ∈ W', p ∈ W ∨ p.2 = none⌝ ∗ owes (me d L) O W')

theorem owing_def {F : FTy → Type} (d : Dev nD) (L : grid0.Coords) (O : CellTallies nD τ sig (HIx 1)) (W : Waits sig (HIx 1)) :
    (owing d L O W : sProp (Res F)) = iprop(∃ W', ⌜∀ p ∈ W', p ∈ W ∨ p.2 = none⌝ ∗ owes (me d L) O W') := rfl

/-- A tile may wait on any of its semaphores. -/
abbrev mayWait {F : FTy → Type} (d : Dev nD) (L : grid0.Coords) (O : CellTallies nD τ sig (HIx 1)) : sProp (Res F) :=
  Transfers.MayWaits (me d L) ι₀ O

/-- One more wait on the transfers' index recorded. -/
theorem owing_insert {F : FTy → Type} {d : Dev nD} {L : grid0.Coords} {O : CellTallies nD τ sig (HIx 1)} {W W' : Waits sig (HIx 1)}
    (h : ∀ p ∈ W', p ∈ W ∨ p.2 = none) (sm : SemLoc sig) :
    (owes (me d L) O (insert (sm, ι₀) W') : sProp (Res F)) ⊢ owing d L O W := by
  unfold owing
  iintro HO
  iexists insert (sm, ι₀) W'
  isplitr
  · ipureintro
    intro p hp
    rcases Finset.mem_insert.mp hp with hp | hp
    · exact .inr (hp ▸ rfl)
    · exact h p hp
  · iexact HO

/-- Writing what a function reads through a view agrees with the function on the view's elements. -/
theorem write_read_self {F : FTy → Type} {c : Thread nD τ} {sp : Space} {s : Shape} {e : EltTy} (v : View sig c.2.kind sp s e)
    (f g : Buf (Elt F) (v.loc c)) (w : s.Idx → Elt F e) (h : v.read (Elt F) g = w) :
    ∀ x ∈ v.set, v.write (Elt F) f w Finset.univ x = g x := by
  intro x hx
  obtain ⟨y, -, rfl⟩ := Finset.mem_map.mp hx
  rw [View.write_emb_of_mem (Val := Elt F) (v := v) f _ (Finset.mem_univ y), ← h, View.read_apply]
  simp

end Cert.KernelIdeal.Pool
-- ==== Proof.Gather.lean ====
/-
  Five gathers in flight on one semaphore. A step's five gathers, eighty rows each, are counted by one semaphore, and
  so are one batch of four hundred row transfers: `wp_fire1` issues eighty more of them, `wp_await1` takes eighty rows'
  worth of credit, and after the fifth wait every row of the buffer holds the table's row that the list names.
-/
module

public import proofs.«01_k».proof.Proof.Base

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

/-! ## Indices -/

/-- Entry `p` of an index list. -/
abbrev ix400 (p : Fin 400) : S400.Idx := fun | 0 => p
/-- Column `l` of the table's row that an index word names. -/
def tIx (w : BitVec 32) (l : Fin 128) : S100000x128.Idx := fun
  | 0 => (⟨w.toNat % 100000, Nat.mod_lt _ (by decide)⟩ : Fin 100000)
  | 1 => l

/-- The rows that a list names, one under the other. -/
def gathered (ls : S400.Idx → BitVec 32) (tb : S100000x128.Idx → F .f32) : S400x128.Idx → F .f32 :=
  fun x => tb (tIx (ls (ix400 (x 0))) (x 1))

/-- Position `j` of the eighty from `n` on. -/
abbrev at80 {n : ℕ} (h : n + 80 ≤ 400) (j : Fin 80) : Fin 400 := ⟨n + j.val, by omega⟩

/-- Row `n + j` of a row buffer is row `j` of the eighty from `n` on. -/
theorem set_chunk_row (n : ℕ) (h : n + 80 ≤ 400) (j : Fin 80) :
    (S80x128.rowRect 0 j).set.map (Rect.unit (s := S400x128) ![n, 0] S80x128.size (inb80x h)).emb
      = (S400x128.rowRect 0 (at80 h j)).set := by
  rw [← Rect.map_emb_univ, ← Rect.map_emb_univ, Finset.map_map]
  have e : ∀ (y : (S80x128.rowRect 0 j).shape.Idx) (y' : (S400x128.rowRect 0 (at80 h j)).shape.Idx), (y 1).val = (y' 1).val →
      (Rect.unit (s := S400x128) ![n, 0] S80x128.size (inb80x h)).emb ((S80x128.rowRect 0 j).emb y)
        = (S400x128.rowRect 0 (at80 h j)).emb y' := fun y y' hy => by
    funext a
    match a with
    | 0 =>
      apply Fin.ext
      have h1 : (y 0).val < 1 := (y 0).isLt
      have h2 : (y' 0).val < 1 := (y' 0).isLt
      show n + 1 * (j.val + 1 * (y 0).val) = n + j.val + 1 * (y' 0).val
      omega
    | 1 =>
      apply Fin.ext
      show 0 + 1 * (0 + 1 * (y 1).val) = 0 + 1 * (y' 1).val
      omega
  ext x
  simp only [Finset.mem_map, Finset.mem_univ, true_and]
  constructor
  · rintro ⟨y, rfl⟩
    exact ⟨fun | 0 => y 0 | 1 => y 1, (e y _ rfl).symm⟩
  · rintro ⟨y, rfl⟩
    exact ⟨fun | 0 => y 0 | 1 => y 1, e _ y rfl⟩

/-- Where a list's entry `n + j` lies: entry `j` of the eighty from `n` on. -/
theorem emb_chunk_entry (xv : IdxBuf) (n : ℕ) (h : n + 80 ≤ 400) (j : Fin 80) (y : S80.Idx) (hy : (y 0).val = j.val) :
    (listAt xv n h).view.emb y = xv.view.emb (ix400 (at80 h j)) := by
  show xv.view.emb ((Rect.unit (s := S400) ![n] S80.size (inb80 h)).emb y) = _
  congr 1
  funext a
  match a with
  | 0 => exact Fin.ext (by simp [hy])

/-- The list's row-major entry `j` is at coordinate `j`. -/
theorem rowMajor_symm_80 (hn : S80.numel = 80) (j : Fin 80) : ((S80.rowMajor.symm (j.cast hn.symm)) 0).val = j.val := by
  have e := Shape.rowMajor_val_one (S80.rowMajor.symm (j.cast hn.symm))
  rw [Equiv.apply_symm_apply] at e
  exact e.symm

/-- The table's slice that is all of it reads as the table. -/
theorem read_tblAll (t : TblHbm) (c : Thread nD τ) (hc : c.2.kind = .scVector) (fs : t.view.ty.Contents (Elt F)) (x : S100000x128.Idx) :
    (tblAll t).view.read (Elt F) fs x = t.view.read (Elt F) fs x := by
  have : (Rect.unit (s := S100000x128) ![0, 0] S100000x128.size inb_S100000x128_S100000x128_0_0).emb x = x := by
    funext a
    match a with
    | 0 => exact Fin.ext (by simp)
    | 1 => exact Fin.ext (by simp)
  rw [View.read_apply, View.read_apply]
  show _ = cast _ (fs (t.view.emb x))
  conv_rhs => rw [← this]
  rfl

/-! ## A row transfer of the batch, before and after -/

section Batch

variable (d : Dev nD) (L : grid0.Coords) (t : TblHbm) (xv : IdxBuf) (r : RowBuf)
  (q qo : PosShare TreeShare) (ft : Buf (Elt F) (t.view.loc (me d L))) (fx : Buf (Elt F) (xv.view.loc (me d L)))

/-- The row buffer's contents once the rows the list names have arrived. -/
abbrev filled (fr : Buf (Elt F) (r.view.loc (me d L))) : Buf (Elt F) (r.view.loc (me d L)) :=
  r.view.write (Elt F) fr (gathered (xv.view.read (Elt F) fx) (t.view.read (Elt F) ft)) Finset.univ

/-- Row `p` of the buffer at contents `f`, entry `p` of the list and a piece of the table's share: what row transfer
    `p` of a step is issued with (`f` what the buffer held) and what it delivers (`f` what it holds then). -/
abbrev rowOwn (f : Buf (Elt F) (r.view.loc (me d L))) (p : Fin 400) : sProp 𝕄 :=
  iprop((r.view.loc (me d L) ↦[(r.view.slice (S400x128.rowRect 0 p)).set]{fullShare} f)
    ∗ (xv.view.loc (me d L) ↦[{xv.view.emb (ix400 p)}]{qo} fx)
    ∗ ((tblAll t).view.loc (me d L) ↦[(tblAll t).view.set]{pieceOf q 400 (by decide) p} ft))

/-- The list's entries one by one. -/
theorem bijective_ix400 : Function.Bijective (fun p : Fin 400 => (ix400 p : S400.Idx)) :=
  ⟨fun a b h => congrFun h 0, fun x => ⟨x 0, funext fun | 0 => rfl⟩⟩

/-- The buffer outright, a share of the list and a share of the table are the four hundred rows' resources. -/
theorem rowOwn_all (f : Buf (Elt F) (r.view.loc (me d L))) :
    (bigSep Finset.univ (rowOwn d L t xv r q qo ft fx f) : sProp 𝕄)
      = iprop((r.view.loc (me d L) ↦[r.view.set]{fullShare} f) ∗ (xv.view.loc (me d L) ↦[xv.view.set]{qo} fx)
          ∗ ((tblAll t).view.loc (me d L) ↦[(tblAll t).view.set]{q} ft)) := by
  rw [pointsTo_rows (me d L) r.view 0 fullShare f, pointsTo_entries (me d L) xv.view _ bijective_ix400 qo fx,
    pointsTo_piecesOf (tblAll t).view.set ft (o := 400) (by decide) q]
  exact (bigSep_sep' _ _ _).trans (congrArg _ (bigSep_sep' _ _ _))

/-- Eighty of the pending rows' resources are a run of consecutive ones and those pending after them. -/
theorem bigSep_pending_run {n k o : ℕ} (h : k + o ≤ n) (Φ : Fin n → sProp 𝕄) :
    bigSep (Transfers.pending k) Φ
      = iprop(bigSep Finset.univ (fun j : Fin o => Φ ⟨k + j.val, by omega⟩) ∗ bigSep (Transfers.pending (k + o)) Φ) := by
  induction o generalizing k with
  | zero =>
    rw [Finset.univ_eq_empty, bigSep_empty]
    exact (equiv_iff.mp BI.emp_sep).symm
  | succ o ih =>
    have e : ∀ j : Fin o, (⟨k + 1 + j.val, by omega⟩ : Fin n) = ⟨k + j.succ.val, by have := j.isLt; show k + (j.val + 1) < n; omega⟩ :=
      fun j => Fin.ext (by show k + 1 + j.val = k + (j.val + 1); omega)
    have ep : Transfers.pending (n := n) (k + 1 + o) = Transfers.pending (k + (o + 1)) := by congr 1; omega
    rw [Transfers.bigSep_pending_step Φ k (by omega), ih (k := k + 1) (by omega), bigSep_univ_succ, ep]
    simp only [e]
    exact (equiv_iff.mp ⟨BI.sep_assoc, BI.sep_assoc'⟩).symm

/-- A row's credit. -/
abbrev rowCr : ℕ := 4096

/-- Every transfer of this kind credits the bits it moves. -/
theorem credit_bits {sp : Space} {s : Shape} {e : EltTy} (v : View sig .scVector sp s e) : v.dmaCredit = s.numel * e.bits := rfl

/-- The step's four hundred row transfers on the gathers' semaphore, `k` issued and `u` units consumed. -/
abbrev GBatch (sem : DmaSem sig) (fr : Buf (Elt F) (r.view.loc (me d L))) (k u : ℕ) : sProp 𝕄 :=
  Transfers.Batch countersEmb (me d L) (.dma sem) ι₀ rowCr
    (rowOwn d L t xv r q qo ft fx (filled d L t xv r ft fx fr)) k u

variable {d L t xv r q qo ft fx}

/-- The same for what is held of it. -/
theorem pts_chunk_row (r : RowBuf) (n : ℕ) (h : n + 80 ≤ 400) (j : Fin 80) (f : Buf (Elt F) (r.view.loc (me d L))) :
    ((rowsAt r n h).view.loc (me d L) ↦[((rowsAt r n h).view.slice (S80x128.rowRect 0 j)).set]{fullShare} f : sProp 𝕄)
      = r.view.loc (me d L) ↦[(r.view.slice (S400x128.rowRect 0 (at80 h j))).set]{fullShare} f := by
  have e : (((rowsAt r n h).view.slice (S80x128.rowRect 0 j)).set : Finset (Idx (r.view.loc (me d L))))
      = (r.view.slice (S400x128.rowRect 0 (at80 h j))).set := by
    refine (View.set_slice _ _).trans ?_
    refine Eq.trans ?_ (View.set_slice _ _).symm
    rw [← set_chunk_row n h j, Finset.map_map]
  exact congrArg (fun I => (r.view.loc (me d L) ↦[I]{fullShare} f : sProp 𝕄)) e

/-- What a row of the eighty from `n` on holds once its transfer has written it is what the filled buffer holds there. -/
theorem row_written {n : ℕ} (h : n + 80 ≤ 400) (fr : Buf (Elt F) (r.view.loc (me d L)))
    (hin : ∀ x, (xv.view.read (Elt F) fx x).toNat < 100000)
    (hin' : ∀ x, ((listAt xv n h).view.read (Elt F) fx x).toNat < S100000x128.size gathers_S100000x128_S80x128.axis) (j : Fin 80) :
    ∀ x ∈ ((rowsAt r n h).view.slice (S80x128.rowRect 0 j)).set,
      ((rowsAt r n h).view.slice (S80x128.rowRect 0 j)).write (Elt F) fr
          (fun y => (tblAll t).view.read (Elt F) ft (gathers_S100000x128_S80x128.rowIdx
            (SparseCore.rows (o := 80) (z := 100000) ((listAt xv n h).view.read (Elt F) fx) rfl hin' j) y)) Finset.univ x
        = filled d L t xv r ft fx fr x := by
  intro x hx
  obtain ⟨y, -, rfl⟩ := Finset.mem_map.mp hx
  rw [View.write_emb_of_mem (Val := Elt F) (v := (rowsAt r n h).view.slice (S80x128.rowRect 0 j)) fr _ (M := Finset.univ) (Finset.mem_univ y)]
  have e2 := View.write_emb_of_mem (Val := Elt F) (v := r.view) fr (gathered (xv.view.read (Elt F) fx) (t.view.read (Elt F) ft)) (M := Finset.univ)
    (Finset.mem_univ ((Rect.unit (s := S400x128) ![n, 0] S80x128.size (inb80x h)).emb ((S80x128.rowRect 0 j).emb y)))
  refine Eq.trans ?_ e2.symm
  refine congrArg _ ?_
  show (tblAll t).view.read (Elt F) ft (gathers_S100000x128_S80x128.rowIdx (SparseCore.rows (o := 80) (z := 100000) ((listAt xv n h).view.read (Elt F) fx) rfl hin' j) y) = _
  rw [read_tblAll t (me d L) rfl]
  unfold gathered
  refine congrArg (t.view.read (Elt F) ft) (funext fun a => ?_)
  match a with
  | 0 =>
    apply Fin.ext
    refine (congrArg Fin.val (Shape.Gathers.rowIdx_axis gathers_S100000x128_S80x128 (SparseCore.rows (o := 80) (z := 100000) ((listAt xv n h).view.read (Elt F) fx) rfl hin' j) y)).trans ?_
    have h0 : (y 0).val < 1 := (y 0).isLt
    have e0 : ix400 (((Rect.unit (s := S400x128) ![n, 0] S80x128.size (inb80x h)).emb ((S80x128.rowRect 0 j).emb y)) 0) = ix400 (at80 h j) := by
      congr 1
      apply Fin.ext
      show n + 1 * (j.val + 1 * (y 0).val) = n + j.val
      omega
    show (SparseCore.rows (o := 80) (z := 100000) ((listAt xv n h).view.read (Elt F) fx) rfl hin' j).val = (xv.view.read (Elt F) fx (ix400 (((Rect.unit (s := S400x128) ![n, 0] S80x128.size (inb80x h)).emb ((S80x128.rowRect 0 j).emb y)) 0))).toNat % 100000
    rw [Nat.mod_eq_of_lt (hin _), e0]
    show ((listAt xv n h).view.read (Elt F) fx (S80.rowMajor.symm (j.cast rfl))).toNat = _
    exact congrArg (fun x => (cast (congrArg (Elt F) xv.view.elt_eq) (fx x) : BitVec 32).toNat) (emb_chunk_entry xv n h j _ (rowMajor_symm_80 rfl j))
  | 1 =>
    apply Fin.ext
    refine (Shape.Gathers.rowIdx_of_ne gathers_S100000x128_S80x128 (SparseCore.rows (o := 80) (z := 100000) ((listAt xv n h).view.read (Elt F) fx) rfl hin' j) y 1 (by decide)).trans ?_
    show (y 1).val = 0 + 1 * (0 + 1 * (y 1).val)
    omega

/-- Setting off eighty rows, as the one operation it is. -/
theorem fire1_bind {sem : DmaSem sig} {n : ℕ} (h : n + 80 ≤ 400) {α : Type} (K : PUnit → Tile F L α) :
    fire1 t xv r sem n h >>= K = .op (.enqueueIndirectDma rfl (listAt xv n h) (o := 80) rfl sem
      fun j w => (SparseCore.rowOf (S100000x128.size gathers_S100000x128_S80x128.axis) w).map
        (SparseCore.gatherRow (me d L) (tblAll t) (rowsAt r n h) gathers_S100000x128_S80x128 sem (View.wordExact_bits rfl) rfl (Or.inl rfl) (by decide) j)) K := rfl

set_option maxHeartbeats 2000000 in
/-- Eighty more of the step's rows set off. -/
theorem wp_fire1 {sem : DmaSem sig} {n : ℕ} (h : n + 80 ≤ 400) {u : ℕ} (hu : u ≤ n * rowCr) {fr : Buf (Elt F) (r.view.loc (me d L))}
    (hin : ∀ x, (xv.view.read (Elt F) fx x).toNat < 100000) {α : Type} {K : PUnit → Tile F L α} {Q : α → sProp 𝕄} :
    iprop(bigSep (Transfers.pending n) (rowOwn d L t xv r q qo ft fx fr) ∗ GBatch d L t xv r q qo ft fx sem fr n u)
      ⊢ iprop((iprop(bigSep (Transfers.pending (n + 80)) (rowOwn d L t xv r q qo ft fx fr) ∗ GBatch d L t xv r q qo ft fx sem fr (n + 80) u)
            -∗ twp d L (K ⟨⟩) Q)
          -∗ twp d L (fire1 t xv r sem n h >>= K) Q) := by
  rw [fire1_bind (d := d)]
  let S : Stream nD τ sig (Elt F) :=
    Stream.issued (me d L) (listAt xv n h).view rfl sem (fun j w => (SparseCore.rowOf (S100000x128.size gathers_S100000x128_S80x128.axis) w).map
      (SparseCore.gatherRow (me d L) (tblAll t) (rowsAt r n h) gathers_S100000x128_S80x128 sem (View.wordExact_bits rfl) rfl (Or.inl rfl) (by decide) j)) 0
  have hlist : ∀ j : Fin 80, S.offs.emb (S.entry j) = xv.view.emb (ix400 (at80 h j)) := fun j =>
    emb_chunk_entry xv n h j _ (rowMajor_symm_80 rfl j)
  have hin' : ∀ x, ((listAt xv n h).view.read (Elt F) fx x).toNat < S100000x128.size gathers_S100000x128_S80x128.axis := fun x => hin _
  let rr : Fin 80 → Fin 100000 := SparseCore.rows (o := 80) (z := 100000) ((listAt xv n h).view.read (Elt F) fx) rfl hin'
  let rd : Fin 80 → RowDma τ sig (Elt F) (me d L).2 sem := fun j =>
    SparseCore.gatherRow (me d L) (tblAll t) (rowsAt r n h) gathers_S100000x128_S80x128 sem (View.wordExact_bits rfl) rfl (Or.inl rfl) (by decide) j (rr j)
  have hA : S.RowsAgree := by
    intro j x x' ρ ρ' e e'
    obtain ⟨_, _, rfl⟩ := Option.map_eq_some_iff.mp e
    obtain ⟨_, _, rfl⟩ := Option.map_eq_some_iff.mp e'
    rfl
  have hrd : ∀ j, S.row j (S.word fx j) = some (rd j) := fun j => by
    change (SparseCore.rowOf (S100000x128.size gathers_S100000x128_S80x128.axis) ((listAt xv n h).view.read (Elt F) fx (S.entry j))).map _ = _
    rw [SparseCore.rowOf_of_lt (hin' _)]; rfl
  have hcr : ∀ j, (rd j).dst.view.dmaCredit = rowCr := fun j => (credit_bits (rd j).dst.view).trans
    (show (S80x128.rowShape gathers_S100000x128_S80x128.axis').numel * EltTy.bits .f32 = rowCr by decide)
  have hsum : ∑ j, (rd j).dst.view.dmaCredit = 80 * rowCr := SparseCore.sum_rowCredit_eq _ hcr rfl
  iintro ⟨HR, HB⟩ Hk
  unfold GBatch Transfers.Batch
  icases HB with ⟨%γ, %γ₀, %κ, #Hinv, HI, H0, Hcred⟩
  ihave HR' := (Entails.of_eq (bigSep_pending_run h (rowOwn d L t xv r q qo ft fx fr))) $$ HR
  icases HR' with ⟨HR, HRrest⟩
  ihave HI' := (Entails.of_eq (bigSep_pending_run h (fun p : Fin 400 => (Idealize.SL.ExclCount.count (countersEmb : UEmb Counters 𝕄) (γ p) 0 : sProp 𝕄)))) $$ HI
  icases HI' with ⟨HI, HIrest⟩
  iapply (wp_enqueueIndirectDma 𝒱₀ (me d L) none Set.univ (offsM := listAt xv n h) (hn := rfl) (qo := qo) (fo := fx) (rd := rd) ι₀ (80 * rowCr) hA hrd hsum) $$ [HR HI]
  · have hrow : ∀ j : Fin 80, iprop(inv κ (Transfers.batchBody countersEmb (me d L, SemLoc.dma sem) rowCr (rowOwn d L t xv r q qo ft fx (filled d L t xv r ft fx fr)) γ γ₀)
          ∗ (rowOwn d L t xv r q qo ft fx fr (at80 h j) ∗ Idealize.SL.ExclCount.count (countersEmb : UEmb Counters 𝕄) (γ (at80 h j)) 0))
        ⊢ iprop(S.heldEntry qo fx j ∗ (S.heldEntry qo fx j -∗ rowRes (me d L) (rd j))) := fun j => by
      have hent : (S.heldEntry qo fx j : sProp 𝕄) = (xv.view.loc (me d L) ↦[{xv.view.emb (ix400 (at80 h j))}]{qo} fx) := by
        rw [← hlist j]
      have hdel : iprop((((rd j).dst.view.loc (me d L) ↦[(rd j).dst.view.set]{fullShare}
            ((rd j).dst.view.write (Elt F) fr ((rd j).via.apply ((rd j).src.view.read (Elt F) ft)) Finset.univ)) ∗ S.heldEntry qo fx j)
            ∗ ((rd j).src.view.loc (me d L) ↦[(rd j).src.view.set]{pieceOf q 400 (by decide) (at80 h j)} ft))
          ⊢ rowOwn d L t xv r q qo ft fx (filled d L t xv r ft fx fr) (at80 h j) := by
        rw [hent]
        iintro ⟨⟨Hr, He⟩, Hs⟩
        isplitl [Hr]
        · iapply (Entails.of_eq (pts_chunk_row r n h j _))
          iapply (Entails.of_eq (pointsTo_congr (row_written h fr hin hin' j))) $$ Hr
        isplitl [He]; · iexact He
        iexact Hs
      iintro ⟨#Hinv, ⟨Hr, He, Hs⟩, Hγ⟩
      isplitl [He]
      · iapply (Entails.of_eq hent.symm); iexact He
      iintro He
      unfold rowRes
      iexists pieceOf q 400 (by decide) (at80 h j), ft, iprop(((rd j).dst.view.loc (me d L) ↦[(rd j).dst.view.set]{fullShare}
        ((rd j).dst.view.write (Elt F) fr ((rd j).via.apply ((rd j).src.view.read (Elt F) ft)) Finset.univ)) ∗ S.heldEntry qo fx j)
      isplitl [Hs]; · iexact Hs
      isplitl [Hr He]
      · iapply writeUpdate_frame
        isplitl [Hr]
        · iapply (pointsTo_writeUpdate (me d L) (v := (rd j).dst.view) subset_rfl)
          iapply (Entails.of_eq (pts_chunk_row r n h j fr).symm) $$ Hr
        · iexact He
      · have ham : (rd j).dst.view.amount (.dma sem) = rowCr := hcr j
        rw [ham]
        iapply (Transfers.batch_creditUpdate countersEmb (at80 h j) hdel)
        isplitr; · iexact Hinv
        iexact Hγ
    unfold Stream.res
    ihave H := Transfers.bigSep_sep_in _ _ _ $$ [HR HI]; · isplitl [HR] <;> iassumption
    iapply (Transfers.bigSep_mono_pers Finset.univ _ _ _ fun j _ => hrow j)
    isplitr; · iexact Hinv
    iexact H
  iintro Hcred'
  iapply Hk
  isplitl [HRrest]; · iexact HRrest
  iexists γ, γ₀, κ
  isplitr; · iexact Hinv
  isplitl [HIrest]; · iexact HIrest
  isplitl [H0]; · iexact H0
  rw [show (n + 80) * rowCr - u = (n * rowCr - u) + 80 * rowCr by rw [Nat.add_mul]; omega, ← tallyAt_add]
  icombine Hcred Hcred' as H
  iexact H

/-- Eighty rows' worth of gathers awaited. -/
theorem wp_await1 {sem : DmaSem sig} {n : ℕ} (h : n + 80 ≤ 400) {fr : Buf (Elt F) (r.view.loc (me d L))}
    {O : CellTallies nD τ sig (HIx 1)} {W : Waits sig (HIx 1)} {α : Type} {K : PUnit → Tile F L α} {Q : α → sProp 𝕄} :
    iprop(GBatch d L t xv r q qo ft fx sem fr 400 (n * rowCr) ∗ owing d L O W ∗ mayWait d L O)
      ⊢ iprop((iprop(GBatch d L t xv r q qo ft fx sem fr 400 ((n + 80) * rowCr) ∗ owing d L O W) -∗ twp d L (K ⟨⟩) Q)
          -∗ twp d L (await1 t r sem n h >>= K) Q) := by
  rw [show await1 (F := F) (i := L) t r sem n h >>= K = .op (.waitDma2 sem (tblAll t) (rowsAt r n h) (View.wordExact_bits rfl) (View.wordExact_bits rfl)) K from rfl]
  have hu : n * rowCr + 80 * rowCr ≤ rowCr * 400 := by show n * 4096 + 80 * 4096 ≤ 4096 * 400; omega
  iintro ⟨HB, HO, Hmw⟩ Hk
  ihave HO := (Entails.of_eq (owing_def d L O W)) $$ HO
  icases HO with ⟨%W', %hW', HO⟩
  iapply (Transfers.wp_waitBatchMulO countersEmb 𝒱₀ (me d L) none ι₀ 80 (N := rowCr)
    ((credit_bits (rowsAt r n h).view).trans (show S80x128.numel * EltTy.bits .f32 = 80 * rowCr by decide)) (D := rowOwn d L t xv r q qo ft fx (filled d L t xv r ft fx fr)) (j := 400) (u := n * rowCr) hu (O := O) (W := W')) $$ [HB HO Hmw]
  · isplitl [HB]; · iexact HB
    isplitl [HO]; · iexact HO
    iapply (Transfers.MayWaits.elim (SemLoc.dma sem)) $$ Hmw
  iintro ⟨HB, HO⟩
  iapply Hk
  isplitl [HB]
  · iapply (Entails.of_eq (congrArg (GBatch d L t xv r q qo ft fx sem fr 400) (Nat.add_mul n 80 rowCr).symm)); iexact HB
  iapply (owing_insert hW' _) $$ HO

/-- The five gathers of a step set off. -/
theorem wp_fire {sem : DmaSem sig} {fr : Buf (Elt F) (r.view.loc (me d L))}
    (hin : ∀ x, (xv.view.read (Elt F) fx x).toNat < 100000) {α : Type} {K : PUnit → Tile F L α} {Q : α → sProp 𝕄} :
    iprop((r.view.loc (me d L) ↦[r.view.set]{fullShare} fr) ∗ (xv.view.loc (me d L) ↦[xv.view.set]{qo} fx)
        ∗ ((tblAll t).view.loc (me d L) ↦[(tblAll t).view.set]{q} ft) ∗ semVal (me d L, .dma sem) 0)
      ⊢ iprop((GBatch d L t xv r q qo ft fx sem fr 400 0 -∗ twp d L (K ⟨⟩) Q)
          -∗ twp d L (fire t xv r sem >>= K) Q) := by
  simp only [fire, Prog.bind_assoc]
  iintro ⟨Hr, Hx, Ht, Hv⟩ Hk
  imod (Transfers.batch_alloc' countersEmb (me d L) (sm := .dma sem) ι₀ rowCr (rowOwn d L t xv r q qo ft fx (filled d L t xv r ft fx fr)) (E := Set.univ)) $$ Hv with HB
  ihave HR := (Entails.of_eq ((Transfers.bigSep_pending_zero _).symm.trans (rowOwn_all d L t xv r q qo ft fx fr)).symm) $$ [Hr Hx Ht]
  · isplitl [Hr]; · iexact Hr
    isplitl [Hx] <;> iassumption
  iapply (wp_fire1 _ (Nat.zero_le _) hin) $$ [HR HB]
  · isplitl [HR] <;> iassumption
  iintro ⟨HR, HB⟩
  iapply (wp_fire1 _ (Nat.zero_le _) hin) $$ [HR HB]
  · isplitl [HR] <;> iassumption
  iintro ⟨HR, HB⟩
  iapply (wp_fire1 _ (Nat.zero_le _) hin) $$ [HR HB]
  · isplitl [HR] <;> iassumption
  iintro ⟨HR, HB⟩
  iapply (wp_fire1 _ (Nat.zero_le _) hin) $$ [HR HB]
  · isplitl [HR] <;> iassumption
  iintro ⟨HR, HB⟩
  iapply (wp_fire1 _ (Nat.zero_le _) hin) $$ [HR HB]
  · isplitl [HR] <;> iassumption
  iintro ⟨-, HB⟩
  iapply Hk $$ HB

/-- The five gathers of a step awaited: the row buffer filled, the list's and the table's shares back. -/
theorem wp_await {sem : DmaSem sig} {fr : Buf (Elt F) (r.view.loc (me d L))}
    {O : CellTallies nD τ sig (HIx 1)} {W : Waits sig (HIx 1)} {α : Type} {K : PUnit → Tile F L α} {Q : α → sProp 𝕄} :
    iprop(GBatch d L t xv r q qo ft fx sem fr 400 0 ∗ owing d L O W ∗ mayWait d L O)
      ⊢ iprop((iprop((r.view.loc (me d L) ↦[r.view.set]{fullShare} filled d L t xv r ft fx fr) ∗ (xv.view.loc (me d L) ↦[xv.view.set]{qo} fx)
            ∗ ((tblAll t).view.loc (me d L) ↦[(tblAll t).view.set]{q} ft) ∗ semVal (me d L, .dma sem) 0 ∗ owing d L O W) -∗ twp d L (K ⟨⟩) Q)
          -∗ twp d L (await t r sem >>= K) Q) := by
  simp only [await, Prog.bind_assoc]
  iintro ⟨HB, HO, #Hmw⟩ Hk
  ihave HB := (Entails.of_eq (congrArg (GBatch d L t xv r q qo ft fx sem fr 400) (Nat.zero_mul rowCr).symm)) $$ HB
  iapply (wp_await1 (n := 0) _) $$ [HB HO]
  · isplitl [HB]; · iexact HB
    isplitl [HO]; · iexact HO
    iexact Hmw
  iintro ⟨HB, HO⟩
  iapply (wp_await1 (n := 80) _) $$ [HB HO]
  · isplitl [HB]; · iexact HB
    isplitl [HO]; · iexact HO
    iexact Hmw
  iintro ⟨HB, HO⟩
  iapply (wp_await1 (n := 160) _) $$ [HB HO]
  · isplitl [HB]; · iexact HB
    isplitl [HO]; · iexact HO
    iexact Hmw
  iintro ⟨HB, HO⟩
  iapply (wp_await1 (n := 240) _) $$ [HB HO]
  · isplitl [HB]; · iexact HB
    isplitl [HO]; · iexact HO
    iexact Hmw
  iintro ⟨HB, HO⟩
  iapply (wp_await1 (n := 320) _) $$ [HB HO]
  · isplitl [HB]; · iexact HB
    isplitl [HO]; · iexact HO
    iexact Hmw
  iintro ⟨HB, HO⟩
  ihave HB := (Entails.of_eq (congrArg (GBatch d L t xv r q qo ft fx sem fr 400) (show (320 + 80) * rowCr = rowCr * 400 from rfl))) $$ HB
  imod (Transfers.batch_collect' countersEmb (me d L) (N := rowCr) (by decide)) $$ HB with ⟨HD, Hv⟩
  ihave HD := (Entails.of_eq (rowOwn_all d L t xv r q qo ft fx (filled d L t xv r ft fx fr))) $$ HD
  icases HD with ⟨Hr, Hx, Ht⟩
  iapply Hk
  isplitl [Hr]; · iexact Hr
  isplitl [Hx]; · iexact Hx
  isplitl [Ht]; · iexact Ht
  isplitl [Hv]; · iexact Hv
  iexact HO

end Batch

end Cert.KernelIdeal.Pool
-- ==== Proof.Compute.lean ====
/-
  The tile's arithmetic: the pad indices of a step counted, its two bags summed, and the results stored, each with the
  values it computes.
-/
module

public import proofs.«01_k».proof.Proof.Base
public import Idealize.ShloMosaic.Lib.Pipeline.Value

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => Res F

/-! ## The values -/

/-- Entry `k` of an index list. -/
def at400 (k : ℕ) : S400.Idx := fun | 0 => (⟨k % 400, Nat.mod_lt _ (by decide)⟩ : Fin 400)

/-- Column `c` of row `k` of a row buffer. -/
def atRow (k c : ℕ) : S400x128.Idx := fun
  | 0 => (⟨k % 400, Nat.mod_lt _ (by decide)⟩ : Fin 400)
  | 1 => (⟨c % 128, Nat.mod_lt _ (by decide)⟩ : Fin 128)

/-- Column `c` of a row of the table. -/
def atCol (c : ℕ) : S128.Idx := fun | 0 => (⟨c % 128, Nat.mod_lt _ (by decide)⟩ : Fin 128)

/-- Sixteen consecutive entries of an index list. -/
def chunk (ls : S400.Idx → BitVec 32) (j : ℕ) : IVec S16 32 := fun y => ls (at400 (16 * j + (y 0).val))

/-- The lane counts after the last `n` blocks of a list. -/
def countVal (ls : S400.Idx → BitVec 32) : ℕ → IVec S16 32 × IVec S16 32 → IVec S16 32 × IVec S16 32
  | 0, c => c
  | n + 1, c => countVal ls n (tally (24 - n) c (chunk ls (24 - n)))

/-- The lane counts of a list's two bags. -/
def counts (ls : S400.Idx → BitVec 32) : IVec S16 32 × IVec S16 32 := countVal ls 25 (broadcast S16 0#32, broadcast S16 0#32)

/-- Column `c` of the first `k` rows from row `b` on added up, in the order of the rows. -/
def accAt (rows : S400x128.Idx → F .f32) (b c : ℕ) : ℕ → F .f32
  | 0 => Scalar.ofBits .f32 0x00000000#32
  | k + 1 => FloatOps.addf (accAt rows b c k) (rows (atRow (b + k) c))

/-- Sixteen columns of the running sum. -/
def lane (rows : S400x128.Idx → F .f32) (b n k : ℕ) : FVec F S16 .f32 := fun y => accAt rows b (n + (y 0).val) k

/-- All eight lane vectors of the running sum. -/
def lanes (rows : S400x128.Idx → F .f32) (b k : ℕ) : Accs F :=
  (lane rows b 0 k, lane rows b 16 k, lane rows b 32 k, lane rows b 48 k, lane rows b 64 k, lane rows b 80 k, lane rows b 96 k, lane rows b 112 k)

/-- A step's two bags: the sum of a bag's rows, less the pad row as often as the bag names it. -/
def bagsOf (rows : S400x128.Idx → F .f32) (pad : S128.Idx → F .f32) (c : IVec S16 32 × IVec S16 32) : S2x128.Idx → F .f32 := fun y =>
  FloatOps.subf (accAt rows (200 * (y 0).val) (y 1).val 200)
    (FloatOps.mulf (total (if (y 0).val = 0 then c.1 else c.2)) (pad (atCol (y 1).val)))

/-! ## Counting -/

variable {d : Dev nD} {L : grid0.Coords}

/-- A block of an index list, as it is loaded. -/
theorem read_chunk (xv : IdxBuf) (fx : Buf (Elt F) (xv.view.loc (me d L))) (j : ℕ) (h : 16 * j + 16 ≤ 400) :
    (xv.access (Rect.unit (s := S400) ![16 * j] S16.size (inb16 h))).read (Elt F) fx = chunk (xv.view.read (Elt F) fx) j := by
  funext y
  have hy : (y 0).val < 16 := (y 0).isLt
  have e : (Rect.unit (s := S400) ![16 * j] S16.size (inb16 h)).emb y = at400 (16 * j + (y 0).val) := by
    funext a
    match a with
    | 0 =>
      apply Fin.ext
      show 16 * j + 1 * (y 0).val = (16 * j + (y 0).val) % 400
      rw [Nat.mod_eq_of_lt (by omega)]; omega
  show xv.view.read (Elt F) fx ((Rect.unit (s := S400) ![16 * j] S16.size (inb16 h)).emb y) = _
  rw [e]; rfl

theorem access_subset {sp : Space} {s : Shape} {e : EltTy} (m : Memref sig .scVector sp s e) (r : Rect s) : (m.access r).set ⊆ m.view.set := by
  show (m.view.slice r).set ⊆ m.view.set
  rw [View.set_slice]
  exact Finset.map_subset_map.mpr (Finset.subset_univ _)

/-- A load, of a buffer of which a share is held. -/
theorem wp_ld {cs : CoreSpace} {s : Shape} {e : EltTy} (m : Memref sig .scVector cs s e) (r : Rect s) {hl : m.view.LoadsAt r.toLoadRect}
    {q : PosShare TreeShare} {f : Buf (Elt F) (m.view.loc (me d L))} {α : Type} {K : (r.shape.Idx → Elt F e) → Tile F L α} {Q : α → sProp 𝕄} :
    (m.view.loc (me d L) ↦[m.view.set]{q} f : sProp 𝕄)
      ⊢ iprop(((m.view.loc (me d L) ↦[m.view.set]{q} f) -∗ twp d L (K ((m.access r).read (Elt F) f)) Q)
          -∗ twp d L ((Prog.lift (.load m r.toLoadRect hl) : Tile F L (r.shape.Idx → Elt F e)) >>= K) Q) :=
  wp_load_rect 𝒱₀ (me d L) none Set.univ (m := m) (r := r) (access_subset m r)

/-- A store, into a buffer held outright. -/
theorem wp_st {cs : CoreSpace} {s : Shape} {e : EltTy} (m : Memref sig .scVector cs s e) (r : Rect s) {w : r.shape.Idx → Elt F e}
    {hx : (m.access r).Stores Finset.univ} {hm : (Finset.univ : Finset r.shape.Idx) = Finset.univ ∨ ∀ a, r.stride a = 1}
    {f : Buf (Elt F) (m.view.loc (me d L))} {α : Type} {K : PUnit → Tile F L α} {Q : α → sProp 𝕄} :
    (m.view.loc (me d L) ↦[m.view.set]{fullShare} f : sProp 𝕄)
      ⊢ iprop(((m.view.loc (me d L) ↦[m.view.set]{fullShare} ((m.access r).write (Elt F) f w Finset.univ)) -∗ twp d L (K ⟨⟩) Q)
          -∗ twp d L ((Prog.lift (.store m r w Finset.univ hx hm) : Tile F L PUnit) >>= K) Q) :=
  wp_store 𝒱₀ (me d L) none Set.univ (m := m) (r := r) (access_subset m r)

theorem wp_countGo (xv : IdxBuf) (q : PosShare TreeShare) (fx : Buf (Elt F) (xv.view.loc (me d L))) :
    ∀ (n : ℕ) (hn : n ≤ 25) (c : IVec S16 32 × IVec S16 32) {α : Type} {K : IVec S16 32 × IVec S16 32 → Tile F L α} {Q : α → sProp 𝕄},
    (xv.view.loc (me d L) ↦[xv.view.set]{q} fx : sProp 𝕄)
      ⊢ iprop(((xv.view.loc (me d L) ↦[xv.view.set]{q} fx) -∗ twp d L (K (countVal (xv.view.read (Elt F) fx) n c)) Q)
          -∗ twp d L (countGo xv n hn c >>= K) Q)
  | 0, _, c, _, K, Q => by
    rw [show countGo (F := F) (i := L) xv 0 _ c >>= K = K c from rfl]
    iintro Hx Hk
    iapply Hk $$ Hx
  | n + 1, hn, c, _, K, Q => by
    rw [countGo, Prog.bind_assoc]
    iintro Hx Hk
    iapply (wp_ld xv _) $$ Hx
    iintro Hx
    rw [read_chunk xv fx (24 - n) (by omega)]
    iapply (wp_countGo xv q fx n (Nat.le_of_succ_le hn) _) $$ Hx
    iexact Hk

/-- The pad indices of a step counted. -/
theorem wp_count (xv : IdxBuf) (q : PosShare TreeShare) (fx : Buf (Elt F) (xv.view.loc (me d L)))
    {α : Type} {K : IVec S16 32 × IVec S16 32 → Tile F L α} {Q : α → sProp 𝕄} :
    (xv.view.loc (me d L) ↦[xv.view.set]{q} fx : sProp 𝕄)
      ⊢ iprop(((xv.view.loc (me d L) ↦[xv.view.set]{q} fx) -∗ twp d L (K (counts (xv.view.read (Elt F) fx))) Q)
          -∗ twp d L (count xv >>= K) Q) := wp_countGo xv q fx 25 (Nat.le_refl _) _

/-! ## Summing -/

/-- Sixteen columns of a row, as they are loaded and flattened. -/
theorem read_row (r : RowBuf) (fr : Buf (Elt F) (r.view.loc (me d L))) (k n : ℕ) (hn : n + 16 ≤ 128)
    (h : ∀ a, (![k, n] : Fin 2 → ℕ) a + S1x16.size a ≤ S400x128.size a) :
    shapeCast S16 ((r.access (Rect.unit (s := S400x128) ![k, n] S1x16.size h)).read (Elt F) fr) shapeCasts_S1x16_S16
      = fun y => r.view.read (Elt F) fr (atRow k (n + (y 0).val)) := by
  funext y
  have hy : (y 0).val < 16 := (y 0).isLt
  have hk : k + 1 ≤ 400 := h 0
  refine (shapeCast_dropUnit_apply (S16.size) _ _ y).trans ?_
  have e : (Rect.unit (s := S400x128) ![k, n] S1x16.size h).emb (Fin.cons ⟨0, Nat.one_pos⟩ y) = atRow k (n + (y 0).val) := by
    funext a
    match a with
    | 0 =>
      apply Fin.ext
      show k + 1 * 0 = k % 400
      rw [Nat.mod_eq_of_lt (by omega)]; omega
    | 1 =>
      apply Fin.ext
      show n + 1 * (y 0).val = (n + (y 0).val) % 128
      rw [Nat.mod_eq_of_lt (by omega)]; omega
  show r.view.read (Elt F) fr ((Rect.unit (s := S400x128) ![k, n] S1x16.size h).emb (Fin.cons ⟨0, Nat.one_pos⟩ y)) = _
  rw [e]

/-- A trip of the reduction. -/
theorem wp_redBody (r : RowBuf) (g : BitVec 32) (hg : g.toNat ≤ 200) (fr : Buf (Elt F) (r.view.loc (me d L))) (k : Fin red.trips) (acc : Accs F) :
    iprop((r.view.loc (me d L) ↦[r.view.set]{fullShare} fr) ∗ ⌜acc = lanes (r.view.read (Elt F) fr) g.toNat k.val⌝)
      ⊢ (twp d L (redBody r g (red_inb g hg) k acc)
          (fun acc' => iprop((r.view.loc (me d L) ↦[r.view.set]{fullShare} fr) ∗ ⌜acc' = lanes (r.view.read (Elt F) fr) g.toNat (k.val + 1)⌝)) : sProp 𝕄) := by
  iintro ⟨Hr, %hacc⟩
  subst hacc
  unfold redBody lanes
  iapply (wp_ld r _) $$ Hr; iintro Hr
  iapply (wp_ld r _) $$ Hr; iintro Hr
  iapply (wp_ld r _) $$ Hr; iintro Hr
  iapply (wp_ld r _) $$ Hr; iintro Hr
  iapply (wp_ld r _) $$ Hr; iintro Hr
  iapply (wp_ld r _) $$ Hr; iintro Hr
  iapply (wp_ld r _) $$ Hr; iintro Hr
  iapply (wp_ld r _) $$ Hr; iintro Hr
  simp only [wp_pure]
  imodintro
  isplitl [Hr]; · iexact Hr
  ipureintro
  have e := redRow_eq g hg k
  simp only [Prod.mk.injEq]
  refine ⟨?_, ?_, ?_, ?_, ?_, ?_, ?_, ?_⟩ <;>
  · rw [read_row (d := d) (L := L) r fr (redRow g k) _ (by decide)]
    funext y
    show FloatOps.addf _ (r.view.read (Elt F) fr (atRow (redRow g k) _)) = FloatOps.addf _ (r.view.read (Elt F) fr (atRow (g.toNat + k.val) _))
    rw [e]
    rfl

/-! ## Storing -/

/-- The first `n` words of an output buffer are those of `T`. -/
def outTo (d : Dev nD) (L : grid0.Coords) (ov : OutBuf) (T : S2x128.Idx → F .f32) (n : ℕ) : sProp 𝕄 :=
  iprop(∃ f, ⌜∀ y : S2x128.Idx, 128 * (y 0).val + (y 1).val < n → ov.view.read (Elt F) f y = T y⌝ ∗ (ov.view.loc (me d L) ↦[ov.view.set]{fullShare} f))

theorem outTo_def (d : Dev nD) (L : grid0.Coords) (ov : OutBuf) (T : S2x128.Idx → F .f32) (n : ℕ) :
    outTo d L ov T n = iprop(∃ f, ⌜∀ y : S2x128.Idx, 128 * (y 0).val + (y 1).val < n → ov.view.read (Elt F) f y = T y⌝ ∗ (ov.view.loc (me d L) ↦[ov.view.set]{fullShare} f)) := rfl

/-- A lane vector stored. -/
theorem wp_put1 (pad : PadBuf) (ov : OutBuf) (g : ℕ) (hg : g < 2) (cv : F .f32) (n : ℕ) (h : n + 16 ≤ 128) (a : FVec F S16 .f32)
    (fp : Buf (Elt F) (pad.view.loc (me d L))) (T : S2x128.Idx → F .f32)
    (hT : ∀ y : S2x128.Idx, (y 0).val = g → ∀ j : S16.Idx, (y 1).val = n + (j 0).val →
      T y = FloatOps.subf (a j) (FloatOps.mulf cv (pad.view.read (Elt F) fp (atCol (y 1).val))))
    {α : Type} {K : PUnit → Tile F L α} {Q : α → sProp 𝕄} :
    iprop(outTo d L ov T (128 * g + n) ∗ (pad.view.loc (me d L) ↦[pad.view.set]{fullShare} fp))
      ⊢ iprop((iprop(outTo d L ov T (128 * g + (n + 16)) ∗ (pad.view.loc (me d L) ↦[pad.view.set]{fullShare} fp)) -∗ twp d L (K ⟨⟩) Q)
          -∗ twp d L (put1 pad ov g hg cv n h a >>= K) Q) := by
  iintro ⟨Ho, Hp⟩ Hk
  ihave Ho := (Entails.of_eq (outTo_def d L ov T _)) $$ Ho
  icases Ho with ⟨%f, %hf, Ho⟩
  unfold put1
  simp only [Prog.bind_assoc]
  iapply (wp_ld pad _) $$ Hp; iintro Hp
  iapply (wp_ld ov _) $$ Ho; iintro Ho
  iapply (wp_st ov _) $$ Ho; iintro Ho
  iapply Hk
  isplitl [Ho]
  · iapply (Entails.of_eq (outTo_def d L ov T _).symm)
    iexists _
    isplitr
    swap; · iexact Ho
    ipureintro
    intro y hy
    have h1 : (y 1).val < 128 := (y 1).isLt
    by_cases hm : 128 * (y 0).val + (y 1).val < 128 * g + n
    · rw [View.read_slice_write_of_not_mem]
      · exact hf y hm
      · intro hmem
        obtain ⟨z, -, rfl⟩ := Finset.mem_map.mp hmem
        have hz : (z 1).val < 16 := (z 1).isLt
        have : 128 * (g + 1 * (z 0).val) + (n + 1 * (z 1).val) < 128 * g + n := hm
        omega
    · have h0 : (y 0).val < 2 := (y 0).isLt
      have hy0 : (y 0).val = g := by omega
      have hy1 : n ≤ (y 1).val ∧ (y 1).val < n + 16 := by omega
      let j : S16.Idx := fun | 0 => (⟨(y 1).val - n, by omega⟩ : Fin 16)
      have e : y = (Rect.unit (s := S2x128) ![g, n] S1x16.size (inbOut hg h)).emb (Fin.cons (⟨0, Nat.one_pos⟩ : Fin 1) j) := by
        funext a
        match a with
        | 0 => exact Fin.ext (show (y 0).val = g + 1 * 0 by omega)
        | 1 => exact Fin.ext (show (y 1).val = n + 1 * ((y 1).val - n) by omega)
      rw [hT y hy0 j (show (y 1).val = n + ((y 1).val - n) by omega)]
      conv_lhs => rw [e]
      rw [View.read_slice_write_emb _ _ _ (Finset.mem_univ _)]
      refine (shapeCast_addUnit_apply (S16.size) _ _ _).trans ?_
      have ep : (Rect.unit (s := S128) ![n] S16.size (inbPad h)).emb j = atCol (y 1).val := by
        funext b
        match b with
        | 0 => exact Fin.ext (show n + 1 * ((y 1).val - n) = (y 1).val % 128 by rw [Nat.mod_eq_of_lt h1]; omega)
      rw [← ep]
      rfl
  · iexact Hp

/-- A bag's eight lane vectors stored. -/
theorem wp_put (pad : PadBuf) (ov : OutBuf) (g : ℕ) (hg : g < 2) (c : IVec S16 32 × IVec S16 32) (rows : S400x128.Idx → F .f32)
    (fp : Buf (Elt F) (pad.view.loc (me d L))) {α : Type} {K : PUnit → Tile F L α} {Q : α → sProp 𝕄} :
    iprop(outTo d L ov (bagsOf rows (pad.view.read (Elt F) fp) c) (128 * g) ∗ (pad.view.loc (me d L) ↦[pad.view.set]{fullShare} fp))
      ⊢ iprop((iprop(outTo d L ov (bagsOf rows (pad.view.read (Elt F) fp) c) (128 * (g + 1)) ∗ (pad.view.loc (me d L) ↦[pad.view.set]{fullShare} fp)) -∗ twp d L (K ⟨⟩) Q)
          -∗ twp d L (put pad ov g hg (total (if g = 0 then c.1 else c.2)) (lanes rows (200 * g) 200) >>= K) Q) := by
  unfold put lanes
  simp only [Prog.bind_assoc]
  have hT : ∀ (n : ℕ), ∀ y : S2x128.Idx, (y 0).val = g → ∀ j : S16.Idx, (y 1).val = n + (j 0).val →
      bagsOf rows (pad.view.read (Elt F) fp) c y = FloatOps.subf (lane rows (200 * g) n 200 j)
        (FloatOps.mulf (total (if g = 0 then c.1 else c.2)) (pad.view.read (Elt F) fp (atCol (y 1).val))) := by
    intro n y hy j hj
    unfold bagsOf lane
    rw [hy, ← hj]
  iintro ⟨Ho, Hp⟩ Hk
  ihave H := (wp_put1 pad ov g hg _ 0 (by decide) _ fp _ (hT 0)) $$ [Ho Hp]
  · isplitl [Ho] <;> iassumption
  iapply H; iintro H
  ihave H := (wp_put1 pad ov g hg _ 16 (by decide) _ fp _ (hT 16)) $$ H
  iapply H; iintro H
  ihave H := (wp_put1 pad ov g hg _ 32 (by decide) _ fp _ (hT 32)) $$ H
  iapply H; iintro H
  ihave H := (wp_put1 pad ov g hg _ 48 (by decide) _ fp _ (hT 48)) $$ H
  iapply H; iintro H
  ihave H := (wp_put1 pad ov g hg _ 64 (by decide) _ fp _ (hT 64)) $$ H
  iapply H; iintro H
  ihave H := (wp_put1 pad ov g hg _ 80 (by decide) _ fp _ (hT 80)) $$ H
  iapply H; iintro H
  ihave H := (wp_put1 pad ov g hg _ 96 (by decide) _ fp _ (hT 96)) $$ H
  iapply H; iintro H
  ihave H := (wp_put1 pad ov g hg _ 112 (by decide) _ fp _ (hT 112)) $$ H
  iapply H; iintro ⟨Ho, Hp⟩
  iapply Hk
  isplitl [Ho]
  · rw [show 128 * (g + 1) = 128 * g + (112 + 16) by omega]; iexact Ho
  · iexact Hp

/-- A bag summed and stored. -/
theorem wp_bag (r : RowBuf) (pad : PadBuf) (ov : OutBuf) (b : BitVec 32) (hb : b.toNat ≤ 200) (g : ℕ) (hg : g < 2) (hbg : b.toNat = 200 * g)
    (c : IVec S16 32 × IVec S16 32) (fr : Buf (Elt F) (r.view.loc (me d L)))
    (fp : Buf (Elt F) (pad.view.loc (me d L))) {α : Type} {K : PUnit → Tile F L α} {Q : α → sProp 𝕄} :
    iprop((r.view.loc (me d L) ↦[r.view.set]{fullShare} fr)
        ∗ outTo d L ov (bagsOf (r.view.read (Elt F) fr) (pad.view.read (Elt F) fp) c) (128 * g) ∗ (pad.view.loc (me d L) ↦[pad.view.set]{fullShare} fp))
      ⊢ iprop((iprop((r.view.loc (me d L) ↦[r.view.set]{fullShare} fr)
            ∗ outTo d L ov (bagsOf (r.view.read (Elt F) fr) (pad.view.read (Elt F) fp) c) (128 * (g + 1)) ∗ (pad.view.loc (me d L) ↦[pad.view.set]{fullShare} fp))
              -∗ twp d L (K ⟨⟩) Q)
          -∗ twp d L (bag r pad ov b hb g hg (total (if g = 0 then c.1 else c.2)) >>= K) Q) := by
  iintro ⟨Hr, Ho, Hp⟩ Hk
  unfold bag
  simp only [Prog.bind_assoc]
  iapply (Scf.wp_for_bind frame (wpE (defs₀ (F := F)) 𝒱₀ (me d L) none) Set.univ red.lb red.ub red.st red_ok
    ((noughts, noughts, noughts, noughts, noughts, noughts, noughts, noughts) : Accs F) (redBody r b (red_inb b hb))
    (fun k acc => iprop((r.view.loc (me d L) ↦[r.view.set]{fullShare} fr) ∗ ⌜acc = lanes (r.view.read (Elt F) fr) b.toNat k⌝))
    (fun k acc => wp_redBody r b hb fr k acc)) $$ [Hr]
  · isplitl [Hr]; · iexact Hr
    ipureintro; rfl
  iintro %acc ⟨Hr, %hacc⟩
  subst hacc
  rw [show lanes (r.view.read (Elt F) fr) b.toNat (Scf.trips red.lb red.ub red.st) = lanes (r.view.read (Elt F) fr) (200 * g) 200 by rw [hbg]; rfl]
  iapply (wp_put pad ov g hg c (r.view.read (Elt F) fr) fp) $$ [Ho Hp]
  · isplitl [Ho] <;> iassumption
  iintro ⟨Ho, Hp⟩
  iapply Hk
  isplitl [Hr]; · iexact Hr
  isplitl [Ho] <;> iassumption

/-- The two bags of a step summed and stored. -/
theorem wp_reduce (r : RowBuf) (pad : PadBuf) (ov : OutBuf) (c : IVec S16 32 × IVec S16 32) (fr : Buf (Elt F) (r.view.loc (me d L)))
    (fp : Buf (Elt F) (pad.view.loc (me d L))) (fo : Buf (Elt F) (ov.view.loc (me d L))) {α : Type} {K : PUnit → Tile F L α} {Q : α → sProp 𝕄} :
    iprop((r.view.loc (me d L) ↦[r.view.set]{fullShare} fr)
        ∗ (ov.view.loc (me d L) ↦[ov.view.set]{fullShare} fo) ∗ (pad.view.loc (me d L) ↦[pad.view.set]{fullShare} fp))
      ⊢ iprop((iprop((r.view.loc (me d L) ↦[r.view.set]{fullShare} fr)
            ∗ (∃ f, ⌜ov.view.read (Elt F) f = bagsOf (r.view.read (Elt F) fr) (pad.view.read (Elt F) fp) c⌝ ∗ (ov.view.loc (me d L) ↦[ov.view.set]{fullShare} f))
            ∗ (pad.view.loc (me d L) ↦[pad.view.set]{fullShare} fp))
              -∗ twp d L (K ⟨⟩) Q)
          -∗ twp d L (reduce r pad ov c >>= K) Q) := by
  iintro ⟨Hr, Ho, Hp⟩ Hk
  unfold reduce
  simp only [Prog.bind_assoc]
  ihave H := (wp_bag r pad ov 0#32 (by decide) 0 (by decide) rfl c fr fp) $$ [Hr Ho Hp]
  · isplitl [Hr]; · iexact Hr
    isplitl [Ho]
    · iapply (Entails.of_eq (outTo_def d L ov _ _).symm)
      iexists fo
      isplitr
      · ipureintro; intro y hy; exact absurd hy (Nat.not_lt_zero _)
      · iexact Ho
    · iexact Hp
  iapply H; iintro H
  ihave H := (wp_bag r pad ov 200#32 (by decide) 1 (by decide) rfl c fr fp) $$ H
  iapply H; iintro ⟨Hr, Ho, Hp⟩
  iapply Hk
  isplitl [Hr]; · iexact Hr
  isplitl [Ho]
  · ihave Ho := (Entails.of_eq (outTo_def d L ov _ _)) $$ Ho
    icases Ho with ⟨%f, %hf, Ho⟩
    iexists f
    isplitr
    · ipureintro
      funext y
      have h0 : (y 0).val < 2 := (y 0).isLt
      have h1 : (y 1).val < 128 := (y 1).isLt
      exact hf y (by omega)
    · iexact Ho
  · iexact Hp

end Cert.KernelIdeal.Pool
-- ==== Proof.Step.lean ====
/-
  A step of the pipeline: the copies in and out, a step's gathers set off and awaited, and the whole step, each taking
  the transfers in flight before it to those in flight after it.
-/
module

public import proofs.«01_k».proof.Proof.Gather
public import proofs.«01_k».proof.Proof.Compute

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => Res F

/-- A buffer held outright, at some contents. -/
abbrev own {sp : Space} {s : Shape} {e : EltTy} (d : Dev nD) (L : grid0.Coords) (m : Memref sig .scVector sp s e) : sProp 𝕄 :=
  iprop(∃ f, m.view.loc (me d L) ↦[m.view.set]{fullShare} f)

/-- A share of a buffer at given contents. -/
abbrev part {sp : Space} {s : Shape} {e : EltTy} (d : Dev nD) (L : grid0.Coords) (m : Memref sig .scVector sp s e) (q : PosShare TreeShare)
    (f : Buf (Elt F) (m.view.loc (me d L))) : sProp 𝕄 :=
  iprop(m.view.loc (me d L) ↦[m.view.set]{q} f)

/-- A copy of four hundred indices in flight: it brings the list `ls` and the source's share back. -/
def fetching (d : Dev nD) (L : grid0.Coords) (x : IdxHbm) (q : PosShare TreeShare) (fX : Buf (Elt F) (x.view.loc (me d L))) (xv : IdxBuf) (sem : DmaSem sig)
    (ls : S400.Idx → BitVec 32) : sProp 𝕄 :=
  iprop(∃ (fx : Buf (Elt F) (xv.view.loc (me d L))) (I : Finset (Idx (x.view.loc (me d L)))), ⌜xv.view.read (Elt F) fx = ls ∧ I ⊆ x.view.set⌝
    ∗ Transfers.Flight countersEmb (me d L) (.dma sem) ι₀ 12800 iprop((xv.view.loc (me d L) ↦[xv.view.set]{fullShare} fx) ∗ (x.view.loc (me d L) ↦[I]{q} fX))
    ∗ (x.view.loc (me d L) ↦[x.view.set \ I]{q} fX))

/-- A step's gathers in flight, with the half of the list that is not lent to them. -/
def gathering (d : Dev nD) (L : grid0.Coords) (t : TblHbm) (q : PosShare TreeShare) (ft : Buf (Elt F) (t.view.loc (me d L))) (xv : IdxBuf) (r : RowBuf) (sem : DmaSem sig)
    (ls : S400.Idx → BitVec 32) : sProp 𝕄 :=
  iprop(∃ (fx : Buf (Elt F) (xv.view.loc (me d L))) (fr : Buf (Elt F) (r.view.loc (me d L))), ⌜xv.view.read (Elt F) fx = ls⌝
    ∗ GBatch d L t xv r q fullShare.left ft fx sem fr 400 0
    ∗ (xv.view.loc (me d L) ↦[xv.view.set]{fullShare.right} fx))

/-- A copy of a step's result in flight: it brings its elements `I` at `G`, and the buffer back. -/
def sending (d : Dev nD) (L : grid0.Coords) (o : OutHbm) (G : Buf (Elt F) (o.view.loc (me d L))) (I : Finset (Idx (o.view.loc (me d L)))) (ov : OutBuf) (sem : DmaSem sig) : sProp 𝕄 :=
  iprop(∃ fo : Buf (Elt F) (ov.view.loc (me d L)),
    Transfers.Flight countersEmb (me d L) (.dma sem) ι₀ 8192 iprop((o.view.loc (me d L) ↦[I]{fullShare} G) ∗ (ov.view.loc (me d L) ↦[ov.view.set]{fullShare} fo)))

/-- A tile's semaphore at nought. -/
abbrev quiet (d : Dev nD) (L : grid0.Coords) (sem : DmaSem sig) : sProp 𝕄 := semVal (me d L, SemLoc.dma sem) 0

section

variable {d : Dev nD} {L : grid0.Coords} {O : CellTallies nD τ sig (HIx 1)} {W : Waits sig (HIx 1)}
  {α : Type} {K : PUnit → Tile F L α} {Q : α → sProp (Res F)}

theorem fetching_def (d : Dev nD) (L : grid0.Coords) (x : IdxHbm) (q : PosShare TreeShare) (fX : Buf (Elt F) (x.view.loc (me d L))) (xv : IdxBuf) (sem : DmaSem sig)
    (ls : S400.Idx → BitVec 32) : fetching d L x q fX xv sem ls
    = iprop(∃ (fx : Buf (Elt F) (xv.view.loc (me d L))) (I : Finset (Idx (x.view.loc (me d L)))), ⌜xv.view.read (Elt F) fx = ls ∧ I ⊆ x.view.set⌝
    ∗ Transfers.Flight countersEmb (me d L) (.dma sem) ι₀ 12800 iprop((xv.view.loc (me d L) ↦[xv.view.set]{fullShare} fx) ∗ (x.view.loc (me d L) ↦[I]{q} fX))
    ∗ (x.view.loc (me d L) ↦[x.view.set \ I]{q} fX)) := rfl

theorem gathering_def (d : Dev nD) (L : grid0.Coords) (t : TblHbm) (q : PosShare TreeShare) (ft : Buf (Elt F) (t.view.loc (me d L))) (xv : IdxBuf) (r : RowBuf) (sem : DmaSem sig)
    (ls : S400.Idx → BitVec 32) : gathering d L t q ft xv r sem ls
    = iprop(∃ (fx : Buf (Elt F) (xv.view.loc (me d L))) (fr : Buf (Elt F) (r.view.loc (me d L))), ⌜xv.view.read (Elt F) fx = ls⌝
    ∗ GBatch d L t xv r q fullShare.left ft fx sem fr 400 0
    ∗ (xv.view.loc (me d L) ↦[xv.view.set]{fullShare.right} fx)) := rfl

theorem sending_def (d : Dev nD) (L : grid0.Coords) (o : OutHbm) (G : Buf (Elt F) (o.view.loc (me d L))) (I : Finset (Idx (o.view.loc (me d L)))) (ov : OutBuf) (sem : DmaSem sig) :
    sending d L o G I ov sem
    = iprop(∃ fo : Buf (Elt F) (ov.view.loc (me d L)),
    Transfers.Flight countersEmb (me d L) (.dma sem) ι₀ 8192 iprop((o.view.loc (me d L) ↦[I]{fullShare} G) ∗ (ov.view.loc (me d L) ↦[ov.view.set]{fullShare} fo))) := rfl

theorem xSlice_subset (x : IdxHbm) (off : Fin 1 → ℕ) (hoff : ∀ a, off a + S400.size a ≤ S3276800.size a) : (xSlice x off hoff).view.set ⊆ x.view.set :=
  access_subset x _

/-- A copy of indices started. -/
theorem wp_copyX (x : IdxHbm) (off : Fin 1 → ℕ) (hoff : ∀ a, off a + S400.size a ≤ S3276800.size a) (xv : IdxBuf) (hxv : xv.IsWhole) (sem : DmaSem sig)
    (q : PosShare TreeShare) (fX : Buf (Elt F) (x.view.loc (me d L))) :
    iprop(own d L xv ∗ part d L x q fX ∗ quiet d L sem)
      ⊢ iprop((fetching d L x q fX xv sem ((xSlice x off hoff).view.read (Elt F) fX) -∗ twp d L (K ⟨⟩) Q)
          -∗ twp d L (copyX x off hoff xv hxv sem >>= K) Q) := by
  rw [show copyX (F := F) (i := L) x off hoff xv hxv sem >>= K
    = .op (.enqueueDmaAs (xSlice x off hoff) (.here xv) .same (.dma sem) (View.wordExact_bits rfl) hxv.wordExact ⟨Or.inl rfl, trivial⟩) K from rfl]
  iintro ⟨⟨%f0, Hv⟩, Hx, Hs⟩ Hk
  ihave Hx := (pointsTo_split_subset (q := q) (f := fX) (xSlice_subset x off hoff)).1 $$ Hx
  icases Hx with ⟨Hx, Hrest⟩
  have hN : xv.view.amount (SemLoc.dma sem) = 12800 := (credit_bits xv.view).trans (show S400.numel * EltTy.i32.bits = 12800 by decide)
  iapply (Transfers.wp_dmaLocal countersEmb 𝒱₀ (me d L) none (src := xSlice x off hoff) (dst := xv) ι₀ 12800 hN (by decide) (Finset.Subset.refl _)) $$ [Hv Hx Hs]
  · isplitl [Hx]; · iexact Hx
    isplitl [Hv]; · iexact Hv
    iexact Hs
  iintro Hf
  iapply Hk
  iapply (Entails.of_eq (fetching_def d L x q fX xv sem _).symm)
  iexists _, (xSlice x off hoff).view.set
  isplitr
  swap
  · isplitl [Hf]; · iexact Hf
    iexact Hrest
  ipureintro
  exact ⟨View.read_write_univ _ _, xSlice_subset x off hoff⟩

/-- A copy of indices awaited. -/
theorem wp_waitX (x : IdxHbm) (off : Fin 1 → ℕ) (hoff : ∀ a, off a + S400.size a ≤ S3276800.size a) (xv : IdxBuf) (hxv : xv.IsWhole) (sem : DmaSem sig)
    (q : PosShare TreeShare) (fX : Buf (Elt F) (x.view.loc (me d L))) (ls : S400.Idx → BitVec 32) :
    iprop(fetching d L x q fX xv sem ls ∗ owing d L O W ∗ mayWait d L O)
      ⊢ iprop((iprop((∃ fx, ⌜xv.view.read (Elt F) fx = ls⌝ ∗ part d L xv fullShare fx) ∗ part d L x q fX ∗ quiet d L sem ∗ owing d L O W) -∗ twp d L (K ⟨⟩) Q)
          -∗ twp d L (waitX x off hoff xv hxv sem >>= K) Q) := by
  rw [show waitX (F := F) (i := L) x off hoff xv hxv sem >>= K
    = .op (.waitDma2 sem (xSlice x off hoff) xv (View.wordExact_bits rfl) hxv.wordExact) K from rfl]
  iintro ⟨Hf, HO, Hmw⟩ Hk
  ihave HO := (Entails.of_eq (owing_def d L O W)) $$ HO
  icases HO with ⟨%W', %hW', HO⟩
  ihave Hf := (Entails.of_eq (fetching_def d L x q fX xv sem ls)) $$ Hf
  icases Hf with ⟨%fx, %I, %hI, Hf, Hrest⟩
  iapply (Transfers.wp_waitLocalO countersEmb 𝒱₀ (me d L) none ι₀ ((credit_bits xv.view).trans (show S400.numel * EltTy.i32.bits = 12800 by decide) : xv.view.dmaCredit = 12800) (O := O) (W := W')) $$ [Hf HO Hmw]
  · isplitl [Hf]; · iexact Hf
    isplitl [HO]; · iexact HO
    iapply (Transfers.MayWaits.elim (SemLoc.dma sem)) $$ Hmw
  iintro ⟨⟨Hv, Hx⟩, Hs, HO⟩
  iapply Hk
  isplitl [Hv]
  · iexists fx; isplitr
    · ipureintro; exact hI.1
    · iexact Hv
  isplitl [Hx Hrest]
  · iapply (pointsTo_split_subset (q := q) (f := fX) hI.2).2
    isplitl [Hx] <;> iassumption
  isplitl [Hs]; · iexact Hs
  iapply (owing_insert hW' _) $$ HO

/-- A result's copy started. -/
theorem wp_copyOut (o : OutHbm) (off : Fin 3 → ℕ) (hoff : ∀ a, off a + S1x2x128.size a ≤ S8192x2x128.size a) (ov : OutBuf) (hov : ov.IsWhole) (sem : DmaSem sig)
    (G fo : Buf (Elt F) (o.view.loc (me d L))) (f : Buf (Elt F) (ov.view.loc (me d L))) (hG : (oSlice o off hoff).view.read (Elt F) G = ov.view.read (Elt F) f) :
    iprop(part d L ov fullShare f ∗ (o.view.loc (me d L) ↦[(oSlice o off hoff).view.set]{fullShare} fo) ∗ quiet d L sem)
      ⊢ iprop((sending d L o G (oSlice o off hoff).view.set ov sem -∗ twp d L (K ⟨⟩) Q)
          -∗ twp d L (copyOut o off hoff ov hov sem >>= K) Q) := by
  rw [show copyOut (F := F) (i := L) o off hoff ov hov sem >>= K
    = .op (.enqueueDmaAs ov (.here (oSlice o off hoff)) .same (.dma sem) hov.wordExact ((View.wordExact_bits rfl).reshape _ _) ⟨Or.inl rfl, trivial⟩) K from rfl]
  iintro ⟨Hv, Ho, Hs⟩ Hk
  have hN : (oSlice o off hoff).view.amount (SemLoc.dma sem) = 8192 :=
    (credit_bits (oSlice o off hoff).view).trans (show S2x128.numel * EltTy.f32.bits = 8192 by decide)
  iapply (Transfers.wp_dmaLocal countersEmb 𝒱₀ (me d L) none (src := ov) (dst := oSlice o off hoff) (fd := fo) ι₀ 8192 hN (by decide) (Finset.Subset.refl _)) $$ [Hv Ho Hs]
  · isplitl [Hv]; · iexact Hv
    isplitl [Ho]; · iexact Ho
    iexact Hs
  iintro Hf
  iapply Hk
  iapply (Entails.of_eq (sending_def d L o G _ ov sem).symm)
  iexists f
  iapply (Transfers.Flight_mono countersEmb (me d L) (sep_mono_left (Entails.of_eq (pointsTo_congr
    (write_read_self (c := me d L) (oSlice o off hoff).view fo G _ hG))))) $$ Hf

/-- A result's copy awaited. -/
theorem wp_waitOut (o : OutHbm) (off : Fin 3 → ℕ) (hoff : ∀ a, off a + S1x2x128.size a ≤ S8192x2x128.size a) (ov : OutBuf) (hov : ov.IsWhole) (sem : DmaSem sig)
    (G : Buf (Elt F) (o.view.loc (me d L))) (I : Finset (Idx (o.view.loc (me d L)))) :
    iprop(sending d L o G I ov sem ∗ owing d L O W ∗ mayWait d L O)
      ⊢ iprop((iprop((o.view.loc (me d L) ↦[I]{fullShare} G) ∗ own d L ov ∗ quiet d L sem ∗ owing d L O W) -∗ twp d L (K ⟨⟩) Q)
          -∗ twp d L (waitOut o off hoff ov hov sem >>= K) Q) := by
  rw [show waitOut (F := F) (i := L) o off hoff ov hov sem >>= K
    = .op (.waitDma2 sem ov (oSlice o off hoff) hov.wordExact ((View.wordExact_bits rfl).reshape _ _)) K from rfl]
  iintro ⟨Hf, HO, Hmw⟩ Hk
  ihave HO := (Entails.of_eq (owing_def d L O W)) $$ HO
  icases HO with ⟨%W', %hW', HO⟩
  ihave Hf := (Entails.of_eq (sending_def d L o G I ov sem)) $$ Hf
  icases Hf with ⟨%fo, Hf⟩
  iapply (Transfers.wp_waitLocalO countersEmb 𝒱₀ (me d L) none ι₀ ((credit_bits (oSlice o off hoff).view).trans (show S2x128.numel * EltTy.f32.bits = 8192 by decide) : (oSlice o off hoff).view.dmaCredit = 8192) (O := O) (W := W')) $$ [Hf HO Hmw]
  · isplitl [Hf]; · iexact Hf
    isplitl [HO]; · iexact HO
    iapply (Transfers.MayWaits.elim (SemLoc.dma sem)) $$ Hmw
  iintro ⟨⟨Ho, Hv⟩, Hs, HO⟩
  iapply Hk
  isplitl [Ho]; · iexact Ho
  isplitl [Hv]; · iexists fo; iexact Hv
  isplitl [Hs]; · iexact Hs
  iapply (owing_insert hW' _) $$ HO

/-- The next step's list awaited and its gathers set off. -/
theorem wp_head (x : IdxHbm) (t : TblHbm) (xn : IdxBuf) (hxn : xn.IsWhole) (rn : RowBuf) (sxn sgn : DmaSem sig)
    (ow : Fin 1 → ℕ) (how : ∀ a, ow a + S400.size a ≤ S3276800.size a)
    (qx : PosShare TreeShare) (fX : Buf (Elt F) (x.view.loc (me d L))) (qt : PosShare TreeShare) (ft : Buf (Elt F) (t.view.loc (me d L))) (ls : S400.Idx → BitVec 32)
    (hls : ∀ p, (ls p).toNat < 100000) :
    iprop(fetching d L x qx fX xn sxn ls ∗ own d L rn ∗ part d L (tblAll t) qt ft ∗ quiet d L sgn ∗ owing d L O W ∗ mayWait d L O)
      ⊢ iprop((iprop(gathering d L t qt ft xn rn sgn ls ∗ part d L x qx fX ∗ quiet d L sxn ∗ owing d L O W) -∗ twp d L (K ⟨⟩) Q)
          -∗ twp d L (head x t xn hxn rn sxn sgn ow how >>= K) Q) := by
  rw [head, Prog.bind_assoc]
  iintro ⟨Hf, ⟨%fr, Hr⟩, Ht, Hs, HO, Hmw⟩ Hk
  iapply (wp_waitX x ow how xn hxn sxn qx fX ls) $$ [Hf HO Hmw]
  · isplitl [Hf]; · iexact Hf
    isplitl [HO]; · iexact HO
    iexact Hmw
  iintro ⟨⟨%fx, %hfx, Hv⟩, Hx, Hsx, HO⟩
  ihave Hv := (pointsTo_share (PosShare.mem_left_op_right fullShare)).1 $$ Hv
  icases Hv with ⟨Hv1, Hv2⟩
  iapply (wp_fire (sem := sgn) (fr := fr) (qo := fullShare.left) (q := qt) (ft := ft) (fx := fx) (t := t) (xv := xn) (r := rn) (by rw [hfx]; exact hls)) $$ [Hr Hv1 Ht Hs]
  · isplitl [Hr]; · iexact Hr
    isplitl [Hv1]; · iexact Hv1
    isplitl [Ht]; · iexact Ht
    iexact Hs
  iintro Hg
  iapply Hk
  isplitl [Hg Hv2]
  · iapply (Entails.of_eq (gathering_def d L t qt ft xn rn sgn ls).symm)
    iexists fx, fr
    isplitr
    · ipureintro; exact hfx
    isplitl [Hg]; · iexact Hg
    iexact Hv2
  isplitl [Hx]; · iexact Hx
  isplitl [Hsx]; · iexact Hsx
  iexact HO

end

section

variable {d : Dev nD} {L : grid0.Coords} {O : CellTallies nD τ sig (HIx 1)} {W : Waits sig (HIx 1)}
  {α : Type} {Q : α → sProp (Res F)}

/-- A step's counts taken and its gathers awaited: the rows are those of the step's list. -/
theorem wp_tail (t : TblHbm) (xv : IdxBuf) (r : RowBuf) (sg : DmaSem sig)
    (qt : PosShare TreeShare) (ft : Buf (Elt F) (t.view.loc (me d L))) (ls : S400.Idx → BitVec 32) {K : IVec S16 32 × IVec S16 32 → Tile F L α} :
    iprop(gathering d L t qt ft xv r sg ls ∗ owing d L O W ∗ mayWait d L O)
      ⊢ iprop((iprop(own d L xv ∗ (∃ fr, ⌜r.view.read (Elt F) fr = gathered ls (t.view.read (Elt F) ft)⌝ ∗ part d L r fullShare fr)
            ∗ part d L (tblAll t) qt ft ∗ quiet d L sg ∗ owing d L O W) -∗ twp d L (K (counts ls)) Q)
          -∗ twp d L (tail t xv r sg >>= K) Q) := by
  rw [tail, Prog.bind_assoc]
  iintro ⟨Hg, HO, Hmw⟩ Hk
  ihave Hg := (Entails.of_eq (gathering_def d L t qt ft xv r sg ls)) $$ Hg
  icases Hg with ⟨%fx, %fr, %hfx, Hg, Hv⟩
  iapply (wp_count xv fullShare.right fx) $$ [Hv]
  · iexact Hv
  iintro Hv
  rw [hfx]
  rw [Prog.bind_assoc]
  iapply (wp_await (sem := sg) (fr := fr) (qo := fullShare.left) (q := qt) (ft := ft) (fx := fx) (t := t) (xv := xv) (r := r) (O := O) (W := W)) $$ [Hg HO Hmw]
  · isplitl [Hg]; · iexact Hg
    isplitl [HO]; · iexact HO
    iexact Hmw
  iintro ⟨Hr, Hv1, Ht, Hs, HO⟩
  rw [pure_bind]
  iapply Hk
  isplitl [Hv Hv1]
  · iexists fx
    iapply (pointsTo_share (PosShare.mem_left_op_right fullShare)).2
    isplitl [Hv1] <;> iassumption
  isplitl [Hr]
  · iexists _
    isplitr
    swap
    · iexact Hr
    ipureintro
    rw [filled, View.read_write_univ, hfx]
  isplitl [Ht]; · iexact Ht
  isplitl [Hs]; · iexact Hs
  iexact HO

/-- A step's two bags reduced, and their copy out set off. -/
theorem wp_finish (o : OutHbm) (pad : PadBuf) (r : RowBuf) (ov : OutBuf) (hov : ov.IsWhole) (so : DmaSem sig)
    (oo : Fin 3 → ℕ) (hoo : ∀ a, oo a + S1x2x128.size a ≤ S8192x2x128.size a) (c : IVec S16 32 × IVec S16 32)
    (rows : S400x128.Idx → F .f32) (fp : Buf (Elt F) (pad.view.loc (me d L))) (G fo : Buf (Elt F) (o.view.loc (me d L)))
    (hG : (oSlice o oo hoo).view.read (Elt F) G = bagsOf rows (pad.view.read (Elt F) fp) c) {K : PUnit → Tile F L α} :
    iprop((∃ fr, ⌜r.view.read (Elt F) fr = rows⌝ ∗ part d L r fullShare fr) ∗ own d L ov ∗ part d L pad fullShare fp
        ∗ (o.view.loc (me d L) ↦[(oSlice o oo hoo).view.set]{fullShare} fo) ∗ quiet d L so)
      ⊢ iprop((iprop(own d L r ∗ part d L pad fullShare fp ∗ sending d L o G (oSlice o oo hoo).view.set ov so) -∗ twp d L (K ⟨⟩) Q)
          -∗ twp d L (finish o pad r ov hov so oo hoo c >>= K) Q) := by
  rw [finish, Prog.bind_assoc]
  iintro ⟨⟨%fr, %hfr, Hr⟩, ⟨%f0, Hv⟩, Hp, Ho, Hs⟩ Hk
  iapply (wp_reduce r pad ov c fr fp f0) $$ [Hr Hv Hp]
  · isplitl [Hr]; · iexact Hr
    isplitl [Hv]; · iexact Hv
    iexact Hp
  iintro ⟨Hr, ⟨%f, %hf, Hv⟩, Hp⟩
  iapply (wp_copyOut o oo hoo ov hov so G fo f (by rw [hG, hf, hfr])) $$ [Hv Ho Hs]
  · isplitl [Hv]; · iexact Hv
    isplitl [Ho]; · iexact Ho
    iexact Hs
  iintro Hf
  iapply Hk
  isplitl [Hr]; · iexists fr; iexact Hr
  isplitl [Hp]; · iexact Hp
  iexact Hf

/-- What a tile holds at the start of a step, besides its results: the step's gathers in flight, the next step's list on its
    way, and the buffers, shares and semaphores that the next gathers and the next fetch take. -/
def Steady (d : Dev nD) (L : grid0.Coords) (x : IdxHbm) (fX : Buf (Elt F) (x.view.loc (me d L))) (t : TblHbm) (ft : Buf (Elt F) (t.view.loc (me d L)))
    (xv xn : IdxBuf) (r rn : RowBuf) (sx sxn sg sgn : DmaSem sig) (qx qxn qt qtn : PosShare TreeShare) (ls lsn : S400.Idx → BitVec 32) : sProp 𝕄 :=
  iprop(fetching d L x qxn fX xn sxn lsn ∗ gathering d L t qt ft xv r sg ls ∗ own d L rn ∗ part d L (tblAll t) qtn ft ∗ quiet d L sgn
    ∗ part d L x qx fX ∗ quiet d L sx)

theorem Steady_def (d : Dev nD) (L : grid0.Coords) (x : IdxHbm) (fX : Buf (Elt F) (x.view.loc (me d L))) (t : TblHbm) (ft : Buf (Elt F) (t.view.loc (me d L)))
    (xv xn : IdxBuf) (r rn : RowBuf) (sx sxn sg sgn : DmaSem sig) (qx qxn qt qtn : PosShare TreeShare) (ls lsn : S400.Idx → BitVec 32) :
    Steady d L x fX t ft xv xn r rn sx sxn sg sgn qx qxn qt qtn ls lsn
  = iprop(fetching d L x qxn fX xn sxn lsn ∗ gathering d L t qt ft xv r sg ls ∗ own d L rn ∗ part d L (tblAll t) qtn ft ∗ quiet d L sgn
    ∗ part d L x qx fX ∗ quiet d L sx) := rfl

/-- The two thirds of a step before its result is written: the next gathers set off, this step's rows and counts taken. -/
theorem wp_lead (x : IdxHbm) (t : TblHbm) (xv xn : IdxBuf) (hxn : xn.IsWhole) (r rn : RowBuf) (sx sxn sg sgn : DmaSem sig)
    (ow : Fin 1 → ℕ) (how : ∀ a, ow a + S400.size a ≤ S3276800.size a) (qx qxn qt qtn : PosShare TreeShare)
    (fX : Buf (Elt F) (x.view.loc (me d L))) (ft : Buf (Elt F) (t.view.loc (me d L))) (ls lsn : S400.Idx → BitVec 32) (hls : ∀ p, (lsn p).toNat < 100000)
    {K : IVec S16 32 × IVec S16 32 → Tile F L α} :
    iprop(Steady d L x fX t ft xv xn r rn sx sxn sg sgn qx qxn qt qtn ls lsn ∗ owing d L O W ∗ mayWait d L O)
      ⊢ iprop((iprop(gathering d L t qtn ft xn rn sgn lsn ∗ part d L x qxn fX ∗ quiet d L sxn ∗ part d L x qx fX ∗ quiet d L sx ∗ own d L xv
            ∗ (∃ fr, ⌜r.view.read (Elt F) fr = gathered ls (t.view.read (Elt F) ft)⌝ ∗ part d L r fullShare fr)
            ∗ part d L (tblAll t) qt ft ∗ quiet d L sg ∗ owing d L O W) -∗ twp d L (K (counts ls)) Q)
          -∗ twp d L (head x t xn hxn rn sxn sgn ow how >>= fun _ => tail t xv r sg >>= K) Q) := by
  iintro ⟨HS, HO, #Hmw⟩ Hk
  ihave HS := (Entails.of_eq (Steady_def d L x fX t ft xv xn r rn sx sxn sg sgn qx qxn qt qtn ls lsn)) $$ HS
  icases HS with ⟨Hf, Hg, Hrn, Ht, Hsgn, Hx, Hsx⟩
  iapply (wp_head x t xn hxn rn sxn sgn ow how qxn fX qtn ft lsn hls) $$ [Hf Hrn Ht Hsgn HO]
  · isplitl [Hf]; · iexact Hf
    isplitl [Hrn]; · iexact Hrn
    isplitl [Ht]; · iexact Ht
    isplitl [Hsgn]; · iexact Hsgn
    isplitl [HO]; · iexact HO
    iexact Hmw
  iintro ⟨Hgn, Hxn, Hsxn, HO⟩
  iapply (wp_tail t xv r sg qt ft ls) $$ [Hg HO]
  · isplitl [Hg]; · iexact Hg
    isplitl [HO]; · iexact HO
    iexact Hmw
  iintro ⟨Hxv, Hr, Ht, Hsg, HO⟩
  iapply Hk
  isplitl [Hgn]; · iexact Hgn
  isplitl [Hxn]; · iexact Hxn
  isplitl [Hsxn]; · iexact Hsxn
  isplitl [Hx]; · iexact Hx
  isplitl [Hsx]; · iexact Hsx
  isplitl [Hxv]; · iexact Hxv
  isplitl [Hr]; · iexact Hr
  isplitl [Ht]; · iexact Ht
  isplitl [Hsg]; · iexact Hsg
  iexact HO

/-- A first step of either parity: no result of its buffer is on its way yet. -/
theorem wp_stepFirst (x : IdxHbm) (t : TblHbm) (o : OutHbm) (pad : PadBuf) (xv xn : IdxBuf) (hxv : xv.IsWhole) (hxn : xn.IsWhole) (r rn : RowBuf)
    (ov : OutBuf) (hov : ov.IsWhole) (sx sxn sg sgn so : DmaSem sig)
    (ow : Fin 1 → ℕ) (how : ∀ a, ow a + S400.size a ≤ S3276800.size a) (ox : Fin 1 → ℕ) (hox : ∀ a, ox a + S400.size a ≤ S3276800.size a)
    (oo : Fin 3 → ℕ) (hoo : ∀ a, oo a + S1x2x128.size a ≤ S8192x2x128.size a) (qx qxn qt qtn : PosShare TreeShare)
    (fX : Buf (Elt F) (x.view.loc (me d L))) (ft : Buf (Elt F) (t.view.loc (me d L))) (fp : Buf (Elt F) (pad.view.loc (me d L))) (G fo : Buf (Elt F) (o.view.loc (me d L)))
    (ls lsn : S400.Idx → BitVec 32) (hls : ∀ p, (lsn p).toNat < 100000)
    (hG : (oSlice o oo hoo).view.read (Elt F) G = bagsOf (gathered ls (t.view.read (Elt F) ft)) (pad.view.read (Elt F) fp) (counts ls))
    {K : PUnit → Tile F L α} :
    iprop(Steady d L x fX t ft xv xn r rn sx sxn sg sgn qx qxn qt qtn ls lsn ∗ part d L pad fullShare fp ∗ own d L ov ∗ quiet d L so
        ∗ (o.view.loc (me d L) ↦[(oSlice o oo hoo).view.set]{fullShare} fo) ∗ owing d L O W ∗ mayWait d L O)
      ⊢ iprop((iprop(Steady d L x fX t ft xn xv rn r sxn sx sgn sg qxn qx qtn qt lsn ((xSlice x ox hox).view.read (Elt F) fX)
            ∗ part d L pad fullShare fp ∗ sending d L o G (oSlice o oo hoo).view.set ov so ∗ owing d L O W) -∗ twp d L (K ⟨⟩) Q)
          -∗ twp d L (stepFirst x t o pad xv xn hxv hxn r rn ov hov sx sxn sg sgn so ow how ox hox oo hoo >>= K) Q) := by
  rw [stepFirst]
  simp only [Prog.bind_assoc]
  iintro ⟨HS, Hp, Hov, Hso, Ho, HO, #Hmw⟩ Hk
  iapply (wp_lead x t xv xn hxn r rn sx sxn sg sgn ow how qx qxn qt qtn fX ft ls lsn hls) $$ [HS HO]
  · isplitl [HS]; · iexact HS
    isplitl [HO]; · iexact HO
    iexact Hmw
  iintro ⟨Hgn, Hxn, Hsxn, Hx, Hsx, Hxv, Hr, Ht, Hsg, HO⟩
  iapply (wp_copyX x ox hox xv hxv sx qx fX) $$ [Hxv Hx Hsx]
  · isplitl [Hxv]; · iexact Hxv
    isplitl [Hx]; · iexact Hx
    iexact Hsx
  iintro Hfx
  iapply (wp_finish o pad r ov hov so oo hoo (counts ls) _ fp G fo hG) $$ [Hr Hov Hp Ho Hso]
  · isplitl [Hr]; · iexact Hr
    isplitl [Hov]; · iexact Hov
    isplitl [Hp]; · iexact Hp
    isplitl [Ho]; · iexact Ho
    iexact Hso
  iintro ⟨Hr, Hp, Hsend⟩
  iapply Hk
  isplitl [Hfx Hgn Hr Ht Hsg Hxn Hsxn]
  · iapply (Entails.of_eq (Steady_def d L x fX t ft xn xv rn r sxn sx sgn sg qxn qx qtn qt lsn _).symm)
    isplitl [Hfx]; · iexact Hfx
    isplitl [Hgn]; · iexact Hgn
    isplitl [Hr]; · iexact Hr
    isplitl [Ht]; · iexact Ht
    isplitl [Hsg]; · iexact Hsg
    isplitl [Hxn]; · iexact Hxn
    iexact Hsxn
  isplitl [Hp]; · iexact Hp
  isplitl [Hsend]; · iexact Hsend
  iexact HO

/-- A later step: the result that its buffer held is awaited before the new one is written. -/
theorem wp_step (x : IdxHbm) (t : TblHbm) (o : OutHbm) (pad : PadBuf) (xv xn : IdxBuf) (hxv : xv.IsWhole) (hxn : xn.IsWhole) (r rn : RowBuf)
    (ov : OutBuf) (hov : ov.IsWhole) (sx sxn sg sgn so : DmaSem sig)
    (ow : Fin 1 → ℕ) (how : ∀ a, ow a + S400.size a ≤ S3276800.size a) (ox : Fin 1 → ℕ) (hox : ∀ a, ox a + S400.size a ≤ S3276800.size a)
    (od : Fin 3 → ℕ) (hod : ∀ a, od a + S1x2x128.size a ≤ S8192x2x128.size a)
    (oo : Fin 3 → ℕ) (hoo : ∀ a, oo a + S1x2x128.size a ≤ S8192x2x128.size a) (qx qxn qt qtn : PosShare TreeShare)
    (fX : Buf (Elt F) (x.view.loc (me d L))) (ft : Buf (Elt F) (t.view.loc (me d L))) (fp : Buf (Elt F) (pad.view.loc (me d L))) (G fo : Buf (Elt F) (o.view.loc (me d L)))
    (I : Finset (Idx (o.view.loc (me d L)))) (ls lsn : S400.Idx → BitVec 32) (hls : ∀ p, (lsn p).toNat < 100000)
    (hG : (oSlice o oo hoo).view.read (Elt F) G = bagsOf (gathered ls (t.view.read (Elt F) ft)) (pad.view.read (Elt F) fp) (counts ls))
    {K : PUnit → Tile F L α} :
    iprop(Steady d L x fX t ft xv xn r rn sx sxn sg sgn qx qxn qt qtn ls lsn ∗ part d L pad fullShare fp ∗ sending d L o G I ov so
        ∗ (o.view.loc (me d L) ↦[(oSlice o oo hoo).view.set]{fullShare} fo) ∗ owing d L O W ∗ mayWait d L O)
      ⊢ iprop((iprop(Steady d L x fX t ft xn xv rn r sxn sx sgn sg qxn qx qtn qt lsn ((xSlice x ox hox).view.read (Elt F) fX)
            ∗ part d L pad fullShare fp ∗ sending d L o G (oSlice o oo hoo).view.set ov so ∗ (o.view.loc (me d L) ↦[I]{fullShare} G) ∗ owing d L O W) -∗ twp d L (K ⟨⟩) Q)
          -∗ twp d L (step x t o pad xv xn hxv hxn r rn ov hov sx sxn sg sgn so ow how ox hox od hod oo hoo >>= K) Q) := by
  rw [step]
  simp only [Prog.bind_assoc]
  iintro ⟨HS, Hp, Hsend, Ho, HO, #Hmw⟩ Hk
  iapply (wp_lead x t xv xn hxn r rn sx sxn sg sgn ow how qx qxn qt qtn fX ft ls lsn hls) $$ [HS HO]
  · isplitl [HS]; · iexact HS
    isplitl [HO]; · iexact HO
    iexact Hmw
  iintro ⟨Hgn, Hxn, Hsxn, Hx, Hsx, Hxv, Hr, Ht, Hsg, HO⟩
  iapply (wp_copyX x ox hox xv hxv sx qx fX) $$ [Hxv Hx Hsx]
  · isplitl [Hxv]; · iexact Hxv
    isplitl [Hx]; · iexact Hx
    iexact Hsx
  iintro Hfx
  iapply (wp_waitOut o od hod ov hov so G I) $$ [Hsend HO]
  · isplitl [Hsend]; · iexact Hsend
    isplitl [HO]; · iexact HO
    iexact Hmw
  iintro ⟨HI, Hov, Hso, HO⟩
  iapply (wp_finish o pad r ov hov so oo hoo (counts ls) _ fp G fo hG) $$ [Hr Hov Hp Ho Hso]
  · isplitl [Hr]; · iexact Hr
    isplitl [Hov]; · iexact Hov
    isplitl [Hp]; · iexact Hp
    isplitl [Ho]; · iexact Ho
    iexact Hso
  iintro ⟨Hr, Hp, Hsend⟩
  iapply Hk
  isplitl [Hfx Hgn Hr Ht Hsg Hxn Hsxn]
  · iapply (Entails.of_eq (Steady_def d L x fX t ft xn xv rn r sxn sx sgn sg qxn qx qtn qt lsn _).symm)
    isplitl [Hfx]; · iexact Hfx
    isplitl [Hgn]; · iexact Hgn
    isplitl [Hr]; · iexact Hr
    isplitl [Ht]; · iexact Ht
    isplitl [Hsg]; · iexact Hsg
    isplitl [Hxn]; · iexact Hxn
    iexact Hsxn
  isplitl [Hp]; · iexact Hp
  isplitl [Hsend]; · iexact Hsend
  isplitl [HI]; · iexact HI
  iexact HO

end

end Cert.KernelIdeal.Pool
-- ==== Proof.Pooled.lean ====
/-
  The pooled array as one function of the index array and the table, and what the pieces that a tile copies are of it.
-/
module

public import proofs.«01_k».proof.Proof.Step

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => Res F

/-- Entry `n` of the flat index array. -/
def atTok (n : ℕ) : S3276800.Idx := fun | 0 => (⟨n % 3276800, Nat.mod_lt _ (by decide)⟩ : Fin 3276800)

/-- The four hundred indices of block `B`: those of its two bags. -/
def listOf (xs : S3276800.Idx → BitVec 32) (B : ℕ) : S400.Idx → BitVec 32 := fun p => xs (atTok (400 * B + (p 0).val))

/-- The table's first row. -/
def padRow (tb : S100000x128.Idx → F .f32) : S128.Idx → F .f32 := fun y => tb (tIx 0#32 (y 0))

/-- The two bags of block `B`. -/
def blockVal (xs : S3276800.Idx → BitVec 32) (tb : S100000x128.Idx → F .f32) (B : ℕ) : S2x128.Idx → F .f32 :=
  bagsOf (gathered (listOf xs B) tb) (padRow tb) (counts (listOf xs B))

/-- An entry of the pooled array within its block. -/
def inBlock (z : S8192x2x128.Idx) : S2x128.Idx := fun
  | 0 => z 1
  | 1 => z 2

/-- The entry of the pooled array at a position of block `B`. -/
def atBlock (B : ℕ) (y : S2x128.Idx) : S8192x2x128.Idx := fun
  | 0 => (⟨B % 8192, Nat.mod_lt _ (by decide)⟩ : Fin 8192)
  | 1 => y 0
  | 2 => y 1

/-- The pooled array. -/
def pooled (xs : S3276800.Idx → BitVec 32) (tb : S100000x128.Idx → F .f32) : S8192x2x128.Idx → F .f32 :=
  fun z => blockVal xs tb (z 0).val (inBlock z)

theorem pooled_atBlock (xs : S3276800.Idx → BitVec 32) (tb : S100000x128.Idx → F .f32) {B : ℕ} (hB : B < 8192) :
    (fun y => pooled xs tb (atBlock B y)) = blockVal xs tb B := by
  funext y
  show blockVal xs tb (B % 8192) (inBlock (atBlock B y)) = _
  rw [Nat.mod_eq_of_lt hB]
  refine congrArg _ (funext fun a => ?_)
  match a with
  | 0 => rfl
  | 1 => rfl

/-- The elements of the pooled array's buffer that block `B` is. -/
def blockSet (o : OutHbm) (B : ℕ) (d : Dev nD) (L : grid0.Coords) : Finset (Idx (o.view.loc (me d L))) :=
  (Finset.univ.filter fun z : S8192x2x128.Idx => (z 0).val = B).map o.view.emb

section
variable {d : Dev nD} {L : grid0.Coords}

theorem read_xSlice (x : IdxHbm) (fX : Buf (Elt F) (x.view.loc (me d L))) {off : Fin 1 → ℕ} (h : ∀ a, off a + S400.size a ≤ S3276800.size a)
    (B : ℕ) (e : off = ![400 * B]) : (xSlice x off h).view.read (Elt F) fX = listOf (x.view.read (Elt F) fX) B := by
  subst e
  funext p
  have hp : (p 0).val < 400 := (p 0).isLt
  have hb : 400 * B + 400 ≤ 3276800 := h 0
  show x.view.read (Elt F) fX ((Rect.unit (s := S3276800) ![400 * B] S400.size h).emb p) = x.view.read (Elt F) fX _
  refine congrArg _ (funext fun a => ?_)
  match a with
  | 0 =>
    apply Fin.ext
    show 400 * B + 1 * (p 0).val = (400 * B + (p 0).val) % 3276800
    rw [Nat.mod_eq_of_lt (by omega)]; omega

theorem block_emb (B : ℕ) (hB : B < 8192) (h : ∀ a, (![B, 0, 0] : Fin 3 → ℕ) a + S1x2x128.size a ≤ S8192x2x128.size a) (hn : S2x128.numel = S1x2x128.numel)
    (y : S2x128.Idx) : (Rect.unit (s := S8192x2x128) ![B, 0, 0] S1x2x128.size h).emb (Shape.reshapeEquiv hn y) = atBlock B y := by
  have e : Shape.reshapeEquiv hn y = (fun | 0 => (0 : Fin 1) | 1 => y 0 | 2 => y 1 : S1x2x128.Idx) :=
    Shape.reshapeEquiv_eq_of_rowMajor hn (by
      rw [Shape.rowMajor_val_three, Shape.rowMajor_val_two]
      show ((0 : ℕ) * 2 + (y 0).val) * 128 + (y 1).val = (y 0).val * 128 + (y 1).val
      omega)
  rw [e]
  funext a
  apply Fin.ext
  match a with
  | 0 =>
    show B + 1 * 0 = B % 8192
    rw [Nat.mod_eq_of_lt hB, Nat.mul_zero, Nat.add_zero]
  | 1 => show 0 + 1 * (y 0).val = (y 0).val; omega
  | 2 => show 0 + 1 * (y 1).val = (y 1).val; omega

theorem read_oSlice (o : OutHbm) (G : Buf (Elt F) (o.view.loc (me d L))) {off : Fin 3 → ℕ} (h : ∀ a, off a + S1x2x128.size a ≤ S8192x2x128.size a)
    (B : ℕ) (e : off = ![B, 0, 0]) : (oSlice o off h).view.read (Elt F) G = fun y => o.view.read (Elt F) G (atBlock B y) := by
  subst e
  have hb : B + 1 ≤ 8192 := h 0
  funext y
  show o.view.read (Elt F) G ((Rect.unit (s := S8192x2x128) ![B, 0, 0] S1x2x128.size h).emb (Shape.reshapeEquiv _ y)) = _
  rw [block_emb B (by omega) h]

theorem set_oSlice (o : OutHbm) {off : Fin 3 → ℕ} (h : ∀ a, off a + S1x2x128.size a ≤ S8192x2x128.size a)
    (B : ℕ) (e : off = ![B, 0, 0]) : (oSlice o off h).view.set = blockSet o B d L := by
  subst e
  have hb : B + 1 ≤ 8192 := h 0
  ext j
  refine Iff.trans Finset.mem_map (Iff.trans ?_ Finset.mem_map.symm)
  constructor
  · rintro ⟨y, -, rfl⟩
    refine ⟨atBlock B y, Finset.mem_filter.mpr ⟨Finset.mem_univ _, Nat.mod_eq_of_lt (by omega)⟩, ?_⟩
    exact congrArg o.view.emb (block_emb B (by omega) h squeezes_S1x2x128_S2x128.numel_eq y).symm
  · rintro ⟨z, hz, rfl⟩
    refine ⟨inBlock z, Finset.mem_univ _, ?_⟩
    refine (congrArg o.view.emb (block_emb B (by omega) h squeezes_S1x2x128_S2x128.numel_eq (inBlock z))).trans (congrArg o.view.emb (funext fun a => ?_))
    have hz' := (Finset.mem_filter.mp hz).2
    match a with
    | 0 => exact Fin.ext (by show B % 8192 = (z 0).val; rw [hz', Nat.mod_eq_of_lt (by omega)])
    | 1 => rfl
    | 2 => rfl

theorem read_tblPad (t : TblHbm) (ft : Buf (Elt F) (t.view.loc (me d L))) : (tblPad t).view.read (Elt F) ft = padRow (t.view.read (Elt F) ft) := by
  funext y
  show t.view.read (Elt F) ft ((Rect.unit (s := S100000x128) ![0, 0] S1x128.size inb_S100000x128_S1x128_0_0).emb (Shape.reshapeEquiv squeezes_S1x128_S128.numel_eq y)) = _
  have e : Shape.reshapeEquiv squeezes_S1x128_S128.numel_eq y = (fun | 0 => (0 : Fin 1) | 1 => y 0 : S1x128.Idx) :=
    Shape.reshapeEquiv_eq_of_rowMajor _ (by
      rw [Shape.rowMajor_val_two, Shape.rowMajor_val_one]
      show (0 : ℕ) * 128 + (y 0).val = (y 0).val
      omega)
  rw [e]
  refine congrArg (t.view.read (Elt F) ft) (funext fun a => ?_)
  apply Fin.ext
  match a with
  | 0 => rfl
  | 1 => show 0 + 1 * (y 0).val = (y 0).val; omega

theorem listOf_lt {xs : S3276800.Idx → BitVec 32} (h : ∀ p, (xs p).toNat < 100000) (B : ℕ) (p : S400.Idx) : (listOf xs B p).toNat < 100000 := h _

end

/-- The finished blocks: those before `k`. -/
abbrev before (k : ℕ) : Finset (Fin 256) := Finset.univ.filter fun j => j.val < k

theorem before_step (D : Fin 256 → sProp 𝕄) (k : ℕ) (hk : k < 256) :
    bigSep (before (k + 1)) D = iprop(D ⟨k, hk⟩ ∗ bigSep (before k) D) := by
  have e : before (k + 1) = insert (⟨k, hk⟩ : Fin 256) (before k) := by
    ext j
    simp only [Finset.mem_filter, Finset.mem_univ, true_and, Finset.mem_insert, Fin.ext_iff]
    omega
  rw [e, SparseCore.bigSep_insert' (by simp)]

theorem before_zero (D : Fin 256 → sProp 𝕄) : bigSep (before 0) D = (iprop(emp) : sProp 𝕄) := by
  rw [show before 0 = ∅ from by ext j; simp]; exact bigSep_empty

theorem before_all (D : Fin 256 → sProp 𝕄) : bigSep (before 256) D = bigSep Finset.univ D := by
  rw [show before 256 = Finset.univ from by ext j; simp [j.isLt]]

end Cert.KernelIdeal.Pool
-- ==== Proof.Tile.lean ====
/-
  A tile's whole program: from its share of the indices and of the table and its part of the pooled array, that part
  holds the pooled bags.
-/
module

public import proofs.«01_k».proof.Proof.Pooled

@[expose] public section

noncomputable section

namespace Cert.KernelIdeal.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => Res F

theorem trips126 : k0_t5_loop.trips = 126 := by decide +kernel

/-- The first block of a tile's part. -/
abbrev base (L : grid0.Coords) : ℕ := 512 * (L 1).val + 256 * (L 0).val

theorem base_lt (L : grid0.Coords) {n : ℕ} (h : n < 256) : base L + n < 8192 := by
  have h0 : (L 0).val < 2 := (L 0).isLt
  have h1 : (L 1).val < 16 := (L 1).isLt
  unfold base; omega

/-- The first block that a peeled step writes. -/
theorem off19_eq : ∀ (L : grid0.Coords) (r : Fin 4), k0_off19 L (k0_off19_at r) = ![base L + (![0, 1, 254, 255] : Fin 4 → ℕ) r, 0, 0] := by
  decide +kernel

theorem twp_pure {d : Dev nD} {L : grid0.Coords} {α : Type} {a : α} {Q : α → sProp 𝕄} : Q a ⊢ twp d L (pure a) Q := by
  unfold twp
  rw [wp_pure]
  iintro H
  imodintro
  iexact H

/-- Step `n`'s index list. -/
abbrev lst (L : grid0.Coords) (xs : S3276800.Idx → BitVec 32) (n : ℕ) : S400.Idx → BitVec 32 := listOf xs (base L + n)

section

variable {d : Dev nD} {L : grid0.Coords} {O : CellTallies nD τ sig (HIx 1)} {W : Waits sig (HIx 1)}
  (x : IdxHbm) (t : TblHbm) (o : OutHbm) (b5 b6 : IdxBuf) (h5 : b5.IsWhole) (h6 : b6.IsWhole) (b7 b8 : RowBuf) (b9 b10 : OutBuf) (h9 : b9.IsWhole) (h10 : b10.IsWhole)
  (pad : PadBuf) (sx sg so : DmaSems sig S2) (qx qt : PosShare TreeShare)
  (fX : Buf (Elt F) (x.view.loc (me d L))) (ft : Buf (Elt F) (t.view.loc (me d L))) (fp : Buf (Elt F) (pad.view.loc (me d L))) (G fo : Buf (Elt F) (o.view.loc (me d L)))

/-- Block `j` of the tile's part of the pooled array, at contents `f`. -/
abbrev blk (o : OutHbm) (f : Buf (Elt F) (o.view.loc (me d L))) (j : Fin 256) : sProp 𝕄 :=
  iprop(o.view.loc (me d L) ↦[blockSet o (base L + j.val) d L]{fullShare} f)

/-- What a tile holds before trip `k` of its loop. -/
def Inv (k : ℕ) : sProp 𝕄 :=
  iprop(Steady d L x fX t ft b5 b6 b7 b8 (semAt0 sx) (semAt1 sx) (semAt0 sg) (semAt1 sg) qx.left qx.right qt.left qt.right
      (lst L (x.view.read (Elt F) fX) (2 * k + 2)) (lst L (x.view.read (Elt F) fX) (2 * k + 3))
    ∗ part d L pad fullShare fp
    ∗ sending d L o G (blockSet o (base L + (2 * k)) d L) b9 (semAt0 so) ∗ sending d L o G (blockSet o (base L + (2 * k + 1)) d L) b10 (semAt1 so)
    ∗ bigSep (before (2 * k)) (blk o G) ∗ bigSep (Transfers.pending (2 * k + 2)) (blk o fo) ∗ owing d L O W)

/-- A step's block as the pooled array's. -/
theorem block_ok {off : Fin 3 → ℕ} (h : ∀ a, off a + S1x2x128.size a ≤ S8192x2x128.size a) {n : ℕ} (hn : n < 256) (e : off = ![base L + n, 0, 0])
    (hp : pad.view.read (Elt F) fp = padRow (t.view.read (Elt F) ft))
    (hG : o.view.read (Elt F) G = pooled (x.view.read (Elt F) fX) (t.view.read (Elt F) ft)) :
    (oSlice o off h).view.read (Elt F) G
      = bagsOf (gathered (lst L (x.view.read (Elt F) fX) n) (t.view.read (Elt F) ft)) (pad.view.read (Elt F) fp) (counts (lst L (x.view.read (Elt F) fX) n)) := by
  rw [read_oSlice o G h (base L + n) e, hG, pooled_atBlock _ _ (base_lt L hn), hp]; rfl

variable {x t o b5 b6 b7 b8 b9 b10 pad sx sg so qx qt fX ft fp G fo}

/-- A trip keeps what the tile holds. -/
theorem wp_trip (hX : ∀ p, (x.view.read (Elt F) fX p).toNat < 100000)
    (hp : pad.view.read (Elt F) fp = padRow (t.view.read (Elt F) ft))
    (hG : o.view.read (Elt F) G = pooled (x.view.read (Elt F) fX) (t.view.read (Elt F) ft)) (k : Fin k0_t5_loop.trips) (acc : BitVec 32) :
    iprop(Inv (O := O) (W := W) x t o b5 b6 b7 b8 b9 b10 pad sx sg so qx qt fX ft fp G fo k.val ∗ mayWait d L O)
      ⊢ twp d L (trip L x t o b5 h5 b6 h6 b7 b8 b9 h9 b10 h10 pad sx sg so k acc)
          fun _ => iprop(Inv (O := O) (W := W) x t o b5 b6 b7 b8 b9 b10 pad sx sg so qx qt fX ft fp G fo (k.val + 1) ∗ mayWait d L O) := by
  have hk : k.val < 126 := trips126 ▸ k.isLt
  unfold Inv
  rw [trip]
  rw [Transfers.bigSep_pending_step _ (2 * k.val + 2) (by omega), Transfers.bigSep_pending_step _ (2 * k.val + 2 + 1) (by omega),
    show 2 * (k.val + 1) = 2 * k.val + 1 + 1 by omega, before_step _ (2 * k.val + 1) (by omega), before_step _ (2 * k.val) (by omega)]
  iintro ⟨⟨HS, Hp, Hs0, Hs1, Hdone, ⟨Ho0, Ho1, Hpend⟩, HO⟩, #Hmw⟩
  have e55 : k0_off55 L k = ![base L + (2 * k.val + 2), 0, 0] := k0_off55_eq L k
  have e73 : k0_off73 L k = ![base L + (2 * k.val + 2 + 1), 0, 0] := k0_off73_eq L k
  have e37 : k0_off37 L k = ![400 * (base L + (2 * k.val + 1 + 1 + 2))] := (k0_off37_eq L k).trans (congrArg (fun n => ![n]) (by unfold base; omega))
  have e56 : k0_off56 L k = ![400 * (base L + (2 * k.val + 1 + 1 + 3))] := (k0_off56_eq L k).trans (congrArg (fun n => ![n]) (by unfold base; omega))
  iapply (wp_step x t o pad b5 b6 h5 h6 b7 b8 b9 h9 (semAt0 sx) (semAt1 sx) (semAt0 sg) (semAt1 sg) (semAt0 so)
    (k0_off36 L) (k0_off36_inb L) (k0_off37 L k) (k0_off37_inb L k) (k0_off38 L) (k0_off38_inb L) (k0_off55 L k) (k0_off55_inb L k)
    qx.left qx.right qt.left qt.right fX ft fp G fo _ _ _ (listOf_lt hX _)
    (block_ok x t o pad fX ft fp G (k0_off55_inb L k) (by omega) e55 hp hG)) $$ [HS Hp Hs0 Ho0 HO]
  · isplitl [HS]; · iexact HS
    isplitl [Hp]; · iexact Hp
    isplitl [Hs0]; · iexact Hs0
    isplitl [Ho0]; · rw [set_oSlice (d := d) (L := L) o (k0_off55_inb L k) _ e55]; iexact Ho0
    isplitl [HO]; · iexact HO
    iexact Hmw
  rw [set_oSlice (d := d) (L := L) o (k0_off55_inb L k) _ e55, read_xSlice x fX (k0_off37_inb L k) _ e37]
  iintro ⟨HS, Hp, Hs0, Hd0, HO⟩
  iapply (wp_step x t o pad b6 b5 h6 h5 b8 b7 b10 h10 (semAt1 sx) (semAt0 sx) (semAt1 sg) (semAt0 sg) (semAt1 so)
    (k0_off36 L) (k0_off36_inb L) (k0_off56 L k) (k0_off56_inb L k) (k0_off38 L) (k0_off38_inb L) (k0_off73 L k) (k0_off73_inb L k)
    qx.right qx.left qt.right qt.left fX ft fp G fo _ _ _ (listOf_lt hX _)
    (block_ok x t o pad fX ft fp G (k0_off73_inb L k) (by omega) e73 hp hG)) $$ [HS Hp Hs1 Ho1 HO]
  · isplitl [HS]; · iexact HS
    isplitl [Hp]; · iexact Hp
    isplitl [Hs1]; · iexact Hs1
    isplitl [Ho1]; · rw [set_oSlice (d := d) (L := L) o (k0_off73_inb L k) _ e73]; iexact Ho1
    isplitl [HO]; · iexact HO
    iexact Hmw
  rw [set_oSlice (d := d) (L := L) o (k0_off73_inb L k) _ e73, read_xSlice x fX (k0_off56_inb L k) _ e56]
  iintro ⟨HS, Hp, Hs1, Hd1, HO⟩
  iapply twp_pure
  isplitl
  swap
  · iexact Hmw
  isplitl [HS]; · iexact HS
  isplitl [Hp]; · iexact Hp
  isplitl [Hs0]; · iexact Hs0
  isplitl [Hs1]; · iexact Hs1
  isplitl [Hd0 Hd1 Hdone]
  · isplitl [Hd1]; · iexact Hd1
    isplitl [Hd0]; · iexact Hd0
    iexact Hdone
  isplitl [Hpend]; · iexact Hpend
  iexact HO

/-- What a tile holds once its first list is on hand and its pad row read: the pipeline filled. -/
theorem wp_prologue (hpad : pad.IsWhole) (hX : ∀ p, (x.view.read (Elt F) fX p).toNat < 100000) (sp sq : DmaSem sig)
    {α : Type} {K : PUnit → Tile F L α} {Q : α → sProp 𝕄} :
    iprop(part d L x qx fX ∗ part d L t qt ft ∗ own d L b5 ∗ own d L b6 ∗ own d L b7 ∗ own d L b8 ∗ own d L pad
        ∗ quiet d L (semAt0 sx) ∗ quiet d L (semAt1 sx) ∗ quiet d L (semAt0 sg) ∗ quiet d L (semAt1 sg) ∗ quiet d L sp ∗ quiet d L sq
        ∗ owing d L O W ∗ mayWait d L O)
      ⊢ iprop((iprop(Steady d L x fX t ft b5 b6 b7 b8 (semAt0 sx) (semAt1 sx) (semAt0 sg) (semAt1 sg) qx.left qx.right qt.left qt.right
              (lst L (x.view.read (Elt F) fX) 0) (lst L (x.view.read (Elt F) fX) 1)
            ∗ (∃ fp, ⌜pad.view.read (Elt F) fp = padRow (t.view.read (Elt F) ft)⌝ ∗ part d L pad fullShare fp)
            ∗ (t.view.loc (me d L) ↦[t.view.set \ (tblAll t).view.set]{qt.left} ft) ∗ (t.view.loc (me d L) ↦[t.view.set \ (tblAll t).view.set]{qt.right} ft)
            ∗ quiet d L sp ∗ quiet d L sq ∗ owing d L O W) -∗ twp d L (K ⟨⟩) Q)
          -∗ twp d L (prologue x t pad hpad b5 b6 h5 h6 b7 sp sq (semAt1 sx) (semAt0 sg) >>= K) Q) := by
  have e0 : ∀ (f : PUnit → Tile F L α),
      (Prog.lift (.enqueueDma (tblPad t) (.here pad) (.dma sp) ((View.wordExact_bits rfl).reshape _ _) hpad.wordExact ⟨Or.inl rfl, trivial⟩) : Tile F L PUnit) >>= f
        = .op (.enqueueDmaAs (tblPad t) (.here pad) .same (.dma sp) ((View.wordExact_bits rfl).reshape _ _) hpad.wordExact ⟨Or.inl rfl, trivial⟩) f := fun _ => rfl
  have e1 : ∀ (f : PUnit → Tile F L α),
      (Prog.lift (.waitDma2 sp (tblPad t) pad ((View.wordExact_bits rfl).reshape _ _) hpad.wordExact) : Tile F L PUnit) >>= f
        = .op (.waitDma2 sp (tblPad t) pad ((View.wordExact_bits rfl).reshape _ _) hpad.wordExact) f := fun _ => rfl
  rw [prologue]
  simp only [Prog.bind_assoc]
  iintro ⟨Hx, Ht, H5, H6, H7, H8, ⟨%f11, Hpad⟩, Hx0, Hx1, Hg0, Hg1, Hsp, Hsq, HO, #Hmw⟩ Hk
  ihave Hx := (pointsTo_share (PosShare.mem_left_op_right qx)).1 $$ Hx
  icases Hx with ⟨HxL, HxR⟩
  ihave Ht := (pointsTo_share (PosShare.mem_left_op_right qt)).1 $$ Ht
  icases Ht with ⟨HtL, HtR⟩
  have hsub : (tblPad t).view.set ⊆ t.view.set := by
    rw [show (tblPad t).view.set = (t.view.slice (Rect.unit (s := S100000x128) ![0, 0] S1x128.size inb_S100000x128_S1x128_0_0)).set from View.set_reshape _ _]
    exact access_subset t _
  have hall : (tblAll t).view.set ⊆ t.view.set := access_subset t _
  -- the pad row
  have hN : pad.view.amount (SemLoc.dma sp) = 4096 := (credit_bits pad.view).trans (show S128.numel * EltTy.f32.bits = 4096 by decide)
  ihave HtL := (pointsTo_split_subset (q := qt.left) (f := ft) hsub).1 $$ HtL
  icases HtL with ⟨HtP, HtQ⟩
  rw [e0]
  iapply (Transfers.wp_dmaLocal countersEmb 𝒱₀ (me d L) none (src := tblPad t) (dst := pad) (fd := f11) ι₀ 4096 hN (by decide) (Finset.Subset.refl _)) $$ [HtP Hpad Hsp]
  · isplitl [HtP]; · iexact HtP
    isplitl [Hpad]; · iexact Hpad
    iexact Hsp
  iintro Hf
  rw [e1]
  ihave HO := (Entails.of_eq (owing_def d L O W)) $$ HO
  icases HO with ⟨%W', %hW', HO⟩
  iapply (Transfers.wp_waitLocalO countersEmb 𝒱₀ (me d L) none ι₀ ((credit_bits pad.view).trans (show S128.numel * EltTy.f32.bits = 4096 by decide) : pad.view.dmaCredit = 4096) (O := O) (W := W')) $$ [Hf HO]
  · isplitl [Hf]; · iexact Hf
    isplitl [HO]; · iexact HO
    iapply (Transfers.MayWaits.elim (SemLoc.dma sp)) $$ Hmw
  iintro ⟨⟨Hpad, HtP⟩, Hsp, HO⟩
  ihave HO := (owing_insert hW' _) $$ HO
  ihave HtL := (pointsTo_split_subset (q := qt.left) (f := ft) hsub).2 $$ [HtP HtQ]
  · isplitl [HtP] <;> iassumption
  ihave HtL := (pointsTo_split_subset (q := qt.left) (f := ft) hall).1 $$ HtL
  icases HtL with ⟨HtL, HtLr⟩
  ihave HtR := (pointsTo_split_subset (q := qt.right) (f := ft) hall).1 $$ HtR
  icases HtR with ⟨HtR, HtRr⟩
  -- the first list, and its gathers
  have eo1 : k0_off1 L = ![400 * (base L + 0)] := (k0_off1_eq L).trans (congrArg (fun n => ![n]) (by unfold base; omega))
  have hx1 : ∀ a, k0_off2 L 1#32 a + S400.size a ≤ S3276800.size a := k0_off2_inb L 0
  have eo2 : k0_off2 L 1#32 = ![400 * (base L + 1)] := (k0_off2_eq L 0).trans (congrArg (fun n => ![n]) (by unfold base; show _ + 400 * 0 + 400 = _; omega))
  iapply (wp_copyX x (k0_off1 L) (k0_off1_inb L) b5 h5 sq qx.left fX) $$ [H5 HxL Hsq]
  · isplitl [H5]; · iexact H5
    isplitl [HxL]; · iexact HxL
    iexact Hsq
  rw [read_xSlice x fX (k0_off1_inb L) _ eo1]
  iintro Hf
  iapply (wp_waitX x (k0_off1 L) (k0_off1_inb L) b5 h5 sq qx.left fX _) $$ [Hf HO]
  · isplitl [Hf]; · iexact Hf
    isplitl [HO]; · iexact HO
    iexact Hmw
  iintro ⟨⟨%fx, %hfx, Hv⟩, HxL, Hsq, HO⟩
  ihave Hv := (pointsTo_share (PosShare.mem_left_op_right fullShare)).1 $$ Hv
  icases Hv with ⟨Hv1, Hv2⟩
  icases H7 with ⟨%fr, Hr⟩
  iapply (wp_fire (sem := semAt0 sg) (fr := fr) (qo := fullShare.left) (q := qt.left) (ft := ft) (fx := fx) (t := t) (xv := b5) (r := b7) (by rw [hfx]; exact listOf_lt hX _)) $$ [Hr Hv1 HtL Hg0]
  · isplitl [Hr]; · iexact Hr
    isplitl [Hv1]; · iexact Hv1
    isplitl [HtL]; · iexact HtL
    iexact Hg0
  iintro Hg
  iapply (wp_copyX x (k0_off2 L 1#32) hx1 b6 h6 (semAt1 sx) qx.right fX) $$ [H6 HxR Hx1]
  · isplitl [H6]; · iexact H6
    isplitl [HxR]; · iexact HxR
    iexact Hx1
  rw [read_xSlice x fX hx1 _ eo2]
  iintro Hf
  iapply Hk
  isplitl [Hf Hg Hv2 H8 HtR Hg1 HxL Hx0]
  · iapply (Entails.of_eq (Steady_def d L x fX t ft b5 b6 b7 b8 (semAt0 sx) (semAt1 sx) (semAt0 sg) (semAt1 sg) qx.left qx.right qt.left qt.right _ _).symm)
    isplitl [Hf]; · iexact Hf
    isplitl [Hg Hv2]
    · iapply (Entails.of_eq (gathering_def d L t qt.left ft b5 b7 (semAt0 sg) _).symm)
      iexists fx, fr
      isplitr
      · ipureintro; exact hfx
      isplitl [Hg]; · iexact Hg
      iexact Hv2
    isplitl [H8]; · iexact H8
    isplitl [HtR]; · iexact HtR
    isplitl [Hg1]; · iexact Hg1
    isplitl [HxL]; · iexact HxL
    iexact Hx0
  isplitl [Hpad]
  · iexists _
    isplitr
    swap
    · iexact Hpad
    ipureintro
    exact (View.read_write_univ _ _).trans (read_tblPad t ft)
  isplitl [HtLr]; · iexact HtLr
  isplitl [HtRr]; · iexact HtRr
  isplitl [Hsp]; · iexact Hsp
  isplitl [Hsq]; · iexact Hsq
  iexact HO

/-- The last two steps: every block is written, every buffer, share and semaphore is back. -/
theorem wp_epilogue (hX : ∀ p, (x.view.read (Elt F) fX p).toNat < 100000)
    (hp : pad.view.read (Elt F) fp = padRow (t.view.read (Elt F) ft))
    (hG : o.view.read (Elt F) G = pooled (x.view.read (Elt F) fX) (t.view.read (Elt F) ft)) {Q : PUnit → sProp 𝕄} :
    iprop(Inv (O := O) (W := W) x t o b5 b6 b7 b8 b9 b10 pad sx sg so qx qt fX ft fp G fo 126 ∗ mayWait d L O)
      ⊢ iprop((iprop(part d L x qx fX ∗ part d L (tblAll t) qt.left ft ∗ part d L (tblAll t) qt.right ft
            ∗ own d L b5 ∗ own d L b6 ∗ own d L b7 ∗ own d L b8 ∗ own d L b9 ∗ own d L b10 ∗ own d L pad
            ∗ quiet d L (semAt0 sx) ∗ quiet d L (semAt1 sx) ∗ quiet d L (semAt0 sg) ∗ quiet d L (semAt1 sg) ∗ quiet d L (semAt0 so) ∗ quiet d L (semAt1 so)
            ∗ bigSep Finset.univ (blk o G) ∗ owing d L O W) -∗ Q ⟨⟩)
          -∗ twp d L (epilogue L x t o b5 b6 h6 b7 b8 b9 h9 b10 h10 pad sx sg so) Q) := by
  unfold Inv
  rw [epilogue]
  rw [show 2 * 126 + 2 = 254 from rfl, show 2 * 126 + 3 = 255 from rfl, show 2 * 126 + 1 = 253 from rfl, show 2 * 126 = 252 from rfl,
    Transfers.bigSep_pending_step _ 254 (by decide), Transfers.bigSep_pending_step _ 255 (by decide), ← before_all,
    before_step _ 255 (by decide), before_step _ 254 (by decide), before_step _ 253 (by decide), before_step _ 252 (by decide)]
  have hb254 : ∀ a, k0_off19 L 254#32 a + S1x2x128.size a ≤ S8192x2x128.size a := k0_off19_inb L 2
  have hb255 : ∀ a, k0_off19 L 255#32 a + S1x2x128.size a ≤ S8192x2x128.size a := k0_off19_inb L 3
  have e0 : k0_off19 L 254#32 = ![base L + 254, 0, 0] := off19_eq L 2
  have e1 : k0_off19 L 255#32 = ![base L + 255, 0, 0] := off19_eq L 3
  iintro ⟨⟨HS, Hp, Hs0, Hs1, Hdone, ⟨Ho0, Ho1, -⟩, HO⟩, #Hmw⟩ Hk
  iapply (wp_lead x t b5 b6 h6 b7 b8 (semAt0 sx) (semAt1 sx) (semAt0 sg) (semAt1 sg) (k0_off1 L) (k0_off1_inb L) qx.left qx.right qt.left qt.right fX ft _ _ (listOf_lt hX _)) $$ [HS HO]
  · isplitl [HS]; · iexact HS
    isplitl [HO]; · iexact HO
    iexact Hmw
  iintro ⟨Hg1, HxR, Hsx1, HxL, Hsx0, H5, Hr, HtL, Hsg0, HO⟩
  iapply (wp_waitOut o (k0_off74 L) (k0_off74_inb L) b9 h9 (semAt0 so) G _) $$ [Hs0 HO]
  · isplitl [Hs0]; · iexact Hs0
    isplitl [HO]; · iexact HO
    iexact Hmw
  iintro ⟨Hd0, H9, Hso0, HO⟩
  iapply (wp_finish o pad b7 b9 h9 (semAt0 so) (k0_off19 L 254#32) hb254 _ _ fp G fo
    (block_ok x t o pad fX ft fp G hb254 (by decide) e0 hp hG)) $$ [Hr H9 Hp Ho0 Hso0]
  · isplitl [Hr]; · iexact Hr
    isplitl [H9]; · iexact H9
    isplitl [Hp]; · iexact Hp
    isplitl [Ho0]; · rw [set_oSlice (d := d) (L := L) o hb254 _ e0]; iexact Ho0
    iexact Hso0
  rw [set_oSlice (d := d) (L := L) o hb254 _ e0]
  iintro ⟨H7, Hp, Hs0⟩
  iapply (wp_tail t b6 b8 (semAt1 sg) qt.right ft _) $$ [Hg1 HO]
  · isplitl [Hg1]; · iexact Hg1
    isplitl [HO]; · iexact HO
    iexact Hmw
  iintro ⟨H6, Hr, HtR, Hsg1, HO⟩
  iapply (wp_waitOut o (k0_off74 L) (k0_off74_inb L) b10 h10 (semAt1 so) G _) $$ [Hs1 HO]
  · isplitl [Hs1]; · iexact Hs1
    isplitl [HO]; · iexact HO
    iexact Hmw
  iintro ⟨Hd1, H10, Hso1, HO⟩
  iapply (wp_finish o pad b8 b10 h10 (semAt1 so) (k0_off19 L 255#32) hb255 _ _ fp G fo
    (block_ok x t o pad fX ft fp G hb255 (by decide) e1 hp hG)) $$ [Hr H10 Hp Ho1 Hso1]
  · isplitl [Hr]; · iexact Hr
    isplitl [H10]; · iexact H10
    isplitl [Hp]; · iexact Hp
    isplitl [Ho1]; · rw [set_oSlice (d := d) (L := L) o hb255 _ e1]; iexact Ho1
    iexact Hso1
  rw [set_oSlice (d := d) (L := L) o hb255 _ e1]
  iintro ⟨H8, Hp, Hs1⟩
  iapply (wp_waitOut o (k0_off74 L) (k0_off74_inb L) b9 h9 (semAt0 so) G _) $$ [Hs0 HO]
  · isplitl [Hs0]; · iexact Hs0
    isplitl [HO]; · iexact HO
    iexact Hmw
  iintro ⟨Hd2, H9, Hso0, HO⟩
  iapply (wp_waitOut o (k0_off74 L) (k0_off74_inb L) b10 h10 (semAt1 so) G _) $$ [Hs1 HO]
  · isplitl [Hs1]; · iexact Hs1
    isplitl [HO]; · iexact HO
    iexact Hmw
  iintro ⟨Hd3, H10, Hso1, HO⟩
  iapply twp_pure
  iapply Hk
  isplitl [HxL HxR]
  · iapply (pointsTo_share (PosShare.mem_left_op_right qx)).2
    isplitl [HxL] <;> iassumption
  isplitl [HtL]; · iexact HtL
  isplitl [HtR]; · iexact HtR
  isplitl [H5]; · iexact H5
  isplitl [H6]; · iexact H6
  isplitl [H7]; · iexact H7
  isplitl [H8]; · iexact H8
  isplitl [H9]; · iexact H9
  isplitl [H10]; · iexact H10
  isplitl [Hp]; · iexists fp; iexact Hp
  isplitl [Hsx0]; · iexact Hsx0
  isplitl [Hsx1]; · iexact Hsx1
  isplitl [Hsg0]; · iexact Hsg0
  isplitl [Hsg1]; · iexact Hsg1
  isplitl [Hso0]; · iexact Hso0
  isplitl [Hso1]; · iexact Hso1
  isplitl [Hd0 Hd1 Hd2 Hd3 Hdone]
  · isplitl [Hd3]; · iexact Hd3
    isplitl [Hd2]; · iexact Hd2
    isplitl [Hd1]; · iexact Hd1
    isplitl [Hd0]; · iexact Hd0
    iexact Hdone
  iexact HO

/-- A tile's program, whole: its blocks of the pooled array are written, and all else is handed back as it was. -/
theorem wp_pool (h11 : pad.IsWhole) (sp sq : DmaSems sig S_)
    (hX : ∀ p, (x.view.read (Elt F) fX p).toNat < 100000)
    (hG : o.view.read (Elt F) G = pooled (x.view.read (Elt F) fX) (t.view.read (Elt F) ft)) {Q : PUnit → sProp 𝕄} :
    iprop(part d L x qx fX ∗ part d L t qt ft ∗ bigSep Finset.univ (blk o fo)
        ∗ own d L b5 ∗ own d L b6 ∗ own d L b7 ∗ own d L b8 ∗ own d L b9 ∗ own d L b10 ∗ own d L pad
        ∗ quiet d L (semAt0 sx) ∗ quiet d L (semAt1 sx) ∗ quiet d L (semAt0 sg) ∗ quiet d L (semAt1 sg) ∗ quiet d L (semAt0 so) ∗ quiet d L (semAt1 so)
        ∗ quiet d L sp.sem ∗ quiet d L sq.sem ∗ owing d L O W ∗ mayWait d L O)
      ⊢ iprop((iprop(part d L x qx fX ∗ part d L t qt ft ∗ bigSep Finset.univ (blk o G)
        ∗ own d L b5 ∗ own d L b6 ∗ own d L b7 ∗ own d L b8 ∗ own d L b9 ∗ own d L b10 ∗ own d L pad
        ∗ quiet d L (semAt0 sx) ∗ quiet d L (semAt1 sx) ∗ quiet d L (semAt0 sg) ∗ quiet d L (semAt1 sg) ∗ quiet d L (semAt0 so) ∗ quiet d L (semAt1 so)
        ∗ quiet d L sp.sem ∗ quiet d L sq.sem ∗ owing d L O W) -∗ Q ⟨⟩)
          -∗ twp d L (pool L x t o b5 h5 b6 h6 b7 b8 b9 h9 b10 h10 pad h11 sx sg so sp sq) Q) := by
  rw [pool]
  iintro ⟨Hx, Ht, Ho, H5, H6, H7, H8, H9, H10, H11, Hsx0, Hsx1, Hsg0, Hsg1, Hso0, Hso1, Hsp, Hsq, HO, #Hmw⟩ Hk
  iapply (wp_prologue (x := x) (t := t) (b5 := b5) (b6 := b6) h5 h6 (b7 := b7) (b8 := b8) (pad := pad) (sx := sx) (sg := sg) (qx := qx) (qt := qt) (fX := fX) (ft := ft) h11 hX sp.sem sq.sem (O := O) (W := W))
    $$ [Hx Ht H5 H6 H7 H8 H11 Hsx0 Hsx1 Hsg0 Hsg1 Hsp Hsq HO]
  · isplitl [Hx]; · iexact Hx
    isplitl [Ht]; · iexact Ht
    isplitl [H5]; · iexact H5
    isplitl [H6]; · iexact H6
    isplitl [H7]; · iexact H7
    isplitl [H8]; · iexact H8
    isplitl [H11]; · iexact H11
    isplitl [Hsx0]; · iexact Hsx0
    isplitl [Hsx1]; · iexact Hsx1
    isplitl [Hsg0]; · iexact Hsg0
    isplitl [Hsg1]; · iexact Hsg1
    isplitl [Hsp]; · iexact Hsp
    isplitl [Hsq]; · iexact Hsq
    isplitl [HO]; · iexact HO
    iexact Hmw
  iintro ⟨HS, ⟨%fp, %hp, Hp⟩, HtLr, HtRr, Hsp, Hsq, HO⟩
  have hb0 : ∀ a, k0_off19 L 0#32 a + S1x2x128.size a ≤ S8192x2x128.size a := k0_off19_inb L 0
  have hb1 : ∀ a, k0_off19 L 1#32 a + S1x2x128.size a ≤ S8192x2x128.size a := k0_off19_inb L 1
  have hx2 : ∀ a, k0_off2 L 2#32 a + S400.size a ≤ S3276800.size a := k0_off2_inb L 1
  have hx3 : ∀ a, k0_off2 L 3#32 a + S400.size a ≤ S3276800.size a := k0_off2_inb L 2
  have e0 : k0_off19 L 0#32 = ![base L + 0, 0, 0] := off19_eq L 0
  have e1 : k0_off19 L 1#32 = ![base L + 1, 0, 0] := off19_eq L 1
  have x2 : k0_off2 L 2#32 = ![400 * (base L + 2)] := (k0_off2_eq L 1).trans (congrArg (fun n => ![n]) (by unfold base; show _ + 400 * 1 + 400 = _; omega))
  have x3 : k0_off2 L 3#32 = ![400 * (base L + 3)] := (k0_off2_eq L 2).trans (congrArg (fun n => ![n]) (by unfold base; show _ + 400 * 2 + 400 = _; omega))
  ihave Ho := (Entails.of_eq (((Transfers.bigSep_pending_zero (blk (d := d) (L := L) o fo)).trans (Transfers.bigSep_pending_step _ 0 (by decide))).trans
    (congrArg (fun P => iprop(blk (d := d) (L := L) o fo ⟨0, by decide⟩ ∗ P)) (Transfers.bigSep_pending_step _ (0 + 1) (by decide))))) $$ Ho
  icases Ho with ⟨Ho0, Ho1, Hpend⟩
  iapply (wp_stepFirst x t o pad b5 b6 h5 h6 b7 b8 b9 h9 (semAt0 sx) (semAt1 sx) (semAt0 sg) (semAt1 sg) (semAt0 so)
    (k0_off1 L) (k0_off1_inb L) (k0_off2 L 2#32) hx2 (k0_off19 L 0#32) hb0
    qx.left qx.right qt.left qt.right fX ft fp G fo _ _ (listOf_lt hX _)
    (block_ok x t o pad fX ft fp G hb0 (by decide) e0 hp hG)) $$ [HS Hp H9 Hso0 Ho0 HO]
  · isplitl [HS]; · iexact HS
    isplitl [Hp]; · iexact Hp
    isplitl [H9]; · iexact H9
    isplitl [Hso0]; · iexact Hso0
    isplitl [Ho0]; · rw [set_oSlice (d := d) (L := L) o hb0 _ e0]; iexact Ho0
    isplitl [HO]; · iexact HO
    iexact Hmw
  rw [set_oSlice (d := d) (L := L) o hb0 _ e0, read_xSlice x fX hx2 _ x2]
  iintro ⟨HS, Hp, Hs0, HO⟩
  iapply (wp_stepFirst x t o pad b6 b5 h6 h5 b8 b7 b10 h10 (semAt1 sx) (semAt0 sx) (semAt1 sg) (semAt0 sg) (semAt1 so)
    (k0_off1 L) (k0_off1_inb L) (k0_off2 L 3#32) hx3 (k0_off19 L 1#32) hb1
    qx.right qx.left qt.right qt.left fX ft fp G fo _ _ (listOf_lt hX _)
    (block_ok x t o pad fX ft fp G hb1 (by decide) e1 hp hG)) $$ [HS Hp H10 Hso1 Ho1 HO]
  · isplitl [HS]; · iexact HS
    isplitl [Hp]; · iexact Hp
    isplitl [H10]; · iexact H10
    isplitl [Hso1]; · iexact Hso1
    isplitl [Ho1]; · rw [set_oSlice (d := d) (L := L) o hb1 _ e1]; iexact Ho1
    isplitl [HO]; · iexact HO
    iexact Hmw
  rw [set_oSlice (d := d) (L := L) o hb1 _ e1, read_xSlice x fX hx3 _ x3]
  iintro ⟨HS, Hp, Hs1, HO⟩
  have hbody := fun (k : Fin k0_t5_loop.trips) (acc : BitVec 32) =>
    wp_trip (d := d) (L := L) (O := O) (W := W) (x := x) (t := t) (o := o) (b5 := b5) (b6 := b6) h5 h6 (b7 := b7) (b8 := b8) (b9 := b9) (b10 := b10) h9 h10
      (pad := pad) (sx := sx) (sg := sg) (so := so) (qx := qx) (qt := qt) (fX := fX) (ft := ft) (fp := fp) (G := G) (fo := fo) hX hp hG k acc
  iapply (Scf.wp_for_bind frame (wpE (defs₀ (F := F)) 𝒱₀ (me d L) none) Set.univ k0_t5_loop.lb k0_t5_loop.ub k0_t5_loop.st k0_t5_ok 0#32
    (trip L x t o b5 h5 b6 h6 b7 b8 b9 h9 b10 h10 pad sx sg so)
    (fun k _ => iprop(Inv (O := O) (W := W) x t o b5 b6 b7 b8 b9 b10 pad sx sg so qx qt fX ft fp G fo k ∗ mayWait d L O)) hbody) $$ [HS Hp Hs0 Hs1 Hpend HO]
  · isplitl
    · unfold Inv
      rw [show 2 * 0 + 1 = 1 from rfl, show 2 * 0 + 2 = 2 from rfl, show 2 * 0 + 3 = 3 from rfl, show 2 * 0 = 0 from rfl, before_zero]
      isplitl [HS]; · iexact HS
      isplitl [Hp]; · iexact Hp
      isplitl [Hs0]; · iexact Hs0
      isplitl [Hs1]; · iexact Hs1
      isplitr; · iempintro
      isplitl [Hpend]; · iexact Hpend
      iexact HO
    iexact Hmw
  · iintro %acc ⟨HI, -⟩
    iapply (wp_epilogue h6 h9 h10 hX hp hG) $$ [HI]
    · isplitl [HI]; · rw [show Scf.trips k0_t5_loop.lb k0_t5_loop.ub k0_t5_loop.st = 126 from trips126]; iexact HI
      iexact Hmw
    iintro ⟨Hx, HtL, HtR, H5, H6, H7, H8, H9, H10, H11, Hsx0, Hsx1, Hsg0, Hsg1, Hso0, Hso1, Ho, HO⟩
    iapply Hk
    isplitl [Hx]; · iexact Hx
    isplitl [HtL HtR HtLr HtRr]
    · iapply (pointsTo_share (PosShare.mem_left_op_right qt)).2
      isplitl [HtL HtLr]
      · iapply (pointsTo_split_subset (q := qt.left) (f := ft) (access_subset t _ : (tblAll t).view.set ⊆ t.view.set)).2
        isplitl [HtL] <;> iassumption
      · iapply (pointsTo_split_subset (q := qt.right) (f := ft) (access_subset t _ : (tblAll t).view.set ⊆ t.view.set)).2
        isplitl [HtR] <;> iassumption
    isplitl [Ho]; · iexact Ho
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hsx0]; · iexact Hsx0
    isplitl [Hsx1]; · iexact Hsx1
    isplitl [Hsg0]; · iexact Hsg0
    isplitl [Hsg1]; · iexact Hsg1
    isplitl [Hso0]; · iexact Hso0
    isplitl [Hso1]; · iexact Hso1
    isplitl [Hsp]; · iexact Hsp
    isplitl [Hsq]; · iexact Hsq
    iexact HO

end

end Cert.KernelIdeal.Pool
-- ==== Proof.Equal.lean ====
/-
  The printed pooling program is `Pool.pool`: the printed parts, whose loops end in the middle of a part, put back into
  one sequence (`bind_assoc`), and the values between them unfolded.
-/
module

public import proofs.«01_k».proof.Proof.Program

@[expose] public section

noncomputable section

namespace Cert.KernelIdeal.Pool

open Cert.KernelIdeal Cert.KernelIdeal.Gen Idealize.ShloMosaic Idealize.SL.Sem

variable {F : FTy → Type} [FloatOps F] (i : grid0.Coords)
  (arg2 : IdxHbm) (harg2 : arg2.IsWhole) (arg3 : TblHbm) (harg3 : arg3.IsWhole) (arg4 : OutHbm) (harg4 : arg4.IsWhole)
  (arg5 : IdxBuf) (harg5 : arg5.IsWhole) (arg6 : IdxBuf) (harg6 : arg6.IsWhole) (arg7 : RowBuf) (harg7 : arg7.IsWhole)
  (arg8 : RowBuf) (harg8 : arg8.IsWhole) (arg9 : OutBuf) (harg9 : arg9.IsWhole) (arg10 : OutBuf) (harg10 : arg10.IsWhole)
  (arg11 : PadBuf) (harg11 : arg11.IsWhole) (arg12 arg13 arg14 : DmaSems sig S2) (sp sq : DmaSems sig S_)

set_option maxRecDepth 65536 in
/-- The printed loop's region is `trip`. -/
theorem trip_eq (v2 : BitVec 32) (v707_7 v708 v741 : FVec F S16 .f32) :
    k0_t5_body (F := F) i arg2 harg2 arg3 harg3 arg4 harg4 arg5 harg5 arg6 harg6 arg7 harg7 arg8 harg8 arg9 harg9 arg10 harg10 arg11 harg11 arg12 arg13 arg14 sp sq v2 k0_pay132 v707_7 v708 v741
      = trip i arg2 arg3 arg4 arg5 harg5 arg6 harg6 arg7 arg8 arg9 harg9 arg10 harg10 arg11 arg12 arg13 arg14 := by
  funext k a
  simp only [k0_t5_body, k0_part8_eq_skeleton, k0_part10_eq_skeleton, k0_part19_eq_skeleton, k0_part21_eq_skeleton, k0_part8_skel,
    k0_part10_skel, k0_part19_skel, k0_part21_skel, bind_assoc, trip, step, tail, finish, reduce, bag]
  rfl

set_option maxRecDepth 65536 in
set_option maxHeartbeats 4000000 in
/-- The printed pooling function is `pool`. -/
theorem pool_eq :
    cc0_pool (F := F) i arg2 harg2 arg3 harg3 arg4 harg4 arg5 harg5 arg6 harg6 arg7 harg7 arg8 harg8 arg9 harg9 arg10 harg10 arg11 harg11 arg12 arg13 arg14 sp sq
      = pool i arg2 arg3 arg4 arg5 harg5 arg6 harg6 arg7 arg8 arg9 harg9 arg10 harg10 arg11 harg11 arg12 arg13 arg14 sp sq := by
  simp only [cc0_pool_eq_skeleton, cc0_pool_skel, k0_part67_eq_skeleton, k0_part67_skel, k0_part32_eq_skeleton, k0_part33_eq_skeleton,
    k0_part43_eq_skeleton, k0_part44_eq_skeleton, k0_part46_eq_skeleton, k0_part54_eq_skeleton, k0_part55_eq_skeleton, k0_part63_eq_skeleton,
    k0_part65_eq_skeleton, k0_part32_skel, k0_part33_skel, k0_part43_skel, k0_part44_skel, k0_part46_skel, k0_part54_skel, k0_part55_skel,
    k0_part63_skel, k0_part65_skel, bind_assoc, pool, stepFirst, epilogue, tail, finish, reduce, bag, trip_eq, k0_part23_eq_skeleton, k0_part23_skel, pure_bind]
  rfl

end Cert.KernelIdeal.Pool
-- ==== Proof.Tasks.lean ====
/-
  The tile's obligation to the launch: the pooling kernel, started on a vector subcore with a share of the flat indices,
  a share of the table and its blocks of the pooled array, hands all of them back with the blocks pooled. And how the
  whole arrays are dealt over the two cores and their sixteen tiles.
-/
module

public import proofs.«01_k».proof.Proof.Tile
public import proofs.«01_k».proof.Proof.Equal
public import Idealize.ShloMosaic.Lib.Pipeline.BigSepL

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's semaphores are distinct and not a kernel's. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## What a tile is dealt -/

abbrev xLoc (d : Dev nD) : Loc nD τ sig := (SparseCore.T d).loc main_v0
abbrev tLoc (d : Dev nD) : Loc nD τ sig := (SparseCore.T d).loc main_arg2
abbrev oLoc (d : Dev nD) : Loc nD τ sig := (SparseCore.T d).loc main_v1

local notation "xV" => (Memref.whole Cert.KernelIdeal.main_v0_scv : Memref Cert.KernelIdeal.sig Kind.scVector Space.hbm Cert.KernelIdeal.S3276800 EltTy.i32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S8192x2x128 EltTy.f32)

/-- Tile `i` of core `c`'s share of what every tile reads. -/
abbrev tileShare (c : Fin 2) (i : Fin 16) : PosShare TreeShare :=
  pieceOf (pieceOf fullShare 2 (by decide) c) 16 (by decide) i

/-- The elements of the pooled array that are block `B`. -/
abbrev inRow (B : ℕ) : Finset S8192x2x128.Idx := Finset.univ.filter fun z : S8192x2x128.Idx => (z 0).val = B

/-- The block that is the `j`-th of tile `i` of core `c`. -/
abbrev blockNo (c : Fin 2) (i : Fin 16) (j : Fin 256) : ℕ := 512 * i.val + 256 * c.val + j.val

/-- What tile `i` of core `c` is dealt: shares of the indices and of the table, and its blocks, at contents `o`. -/
@[irreducible] def deal (d : Dev nD) (xs : Buf (Elt F) (xLoc d)) (tb : Buf (Elt F) (tLoc d)) (o : Buf (Elt F) (oLoc d)) (c : Fin 2) (i : Fin 16) : sProp 𝕄 :=
  iprop((xLoc d ↦{tileShare c i} xs) ∗ (tLoc d ↦{tileShare c i} tb)
    ∗ bigSep Finset.univ fun j : Fin 256 => oLoc d ↦[inRow (blockNo c i j)]{fullShare} o)

/-- The blocks of all the tiles are the whole array, each element in one. -/
theorem blocks_disjoint (k l : (Fin 2 × Fin 16) × Fin 256) (h : k ≠ l) :
    Disjoint (inRow (blockNo k.1.1 k.1.2 k.2)) (inRow (blockNo l.1.1 l.1.2 l.2)) := by
  refine Finset.disjoint_filter.mpr fun z _ hk hl => h ?_
  obtain ⟨⟨c, i⟩, j⟩ := k
  obtain ⟨⟨c', i'⟩, j'⟩ := l
  simp only [blockNo] at hk hl
  have hc := c.isLt; have hc' := c'.isLt; have hj := j.isLt; have hj' := j'.isLt
  have e1 : c = c' := Fin.ext (by omega)
  have e2 : i = i' := Fin.ext (by omega)
  have e3 : j = j' := Fin.ext (by omega)
  rw [e1, e2, e3]

/-- Every block below the number of them is some tile's. -/
theorem blockNo_onto (n : ℕ) (h : n < 8192) : ∃ k : (Fin 2 × Fin 16) × Fin 256, n = blockNo k.1.1 k.1.2 k.2 := by
  refine ⟨((⟨n / 256 % 2, Nat.mod_lt _ (by decide)⟩, ⟨n / 512, by omega⟩), ⟨n % 256, Nat.mod_lt _ (by decide)⟩), ?_⟩
  show n = 512 * (n / 512) + 256 * (n / 256 % 2) + n % 256
  omega

theorem row_lt (z : S8192x2x128.Idx) : (z 0).val < 8192 := lt_of_lt_of_eq (z 0).isLt (show S8192x2x128.size 0 = 8192 from rfl)

theorem mem_inRow {z : S8192x2x128.Idx} {B : ℕ} (h : (z 0).val = B) : z ∈ inRow B := Finset.mem_filter.mpr ⟨Finset.mem_univ z, h⟩

theorem mem_someRow (z : S8192x2x128.Idx) : ∃ k : (Fin 2 × Fin 16) × Fin 256, z ∈ inRow (blockNo k.1.1 k.1.2 k.2) := by
  have h := blockNo_onto _ (row_lt z)
  cases h with
  | intro k hk => exact Exists.intro k (mem_inRow hk)

theorem cover {I A : Type} [Fintype I] [Fintype A] (dec : DecidableEq A) (t : I → Finset A) (h : ∀ z, ∃ k, z ∈ t k) :
    Finset.univ.biUnion t = Finset.univ :=
  Finset.eq_univ_of_forall fun z => Finset.mem_biUnion.mpr ((h z).imp fun k hk => ⟨Finset.mem_univ k, hk⟩)

theorem blocks_cover : (Finset.univ : Finset ((Fin 2 × Fin 16) × Fin 256)).biUnion (fun k => inRow (blockNo k.1.1 k.1.2 k.2)) = Finset.univ :=
  cover _ _ mem_someRow

/-- A table that every tile reads, dealt in shares. -/
theorem shares_eq {ℓ : Loc nD τ sig} (f : Buf (Elt F) ℓ) :
    (ℓ ↦{fullShare} f : sProp 𝕄) = bigSep Finset.univ fun c : Fin 2 => bigSep Finset.univ fun i : Fin 16 => ℓ ↦{tileShare c i} f :=
  (pointsTo_piecesOf Finset.univ f (o := 2) (by decide) fullShare).trans
    (bigSep_congr fun c _ => pointsTo_piecesOf Finset.univ f (o := 16) (by decide) _)

/-- The pooled array, dealt in blocks. -/
theorem blocks_eq (d : Dev nD) (f : Buf (Elt F) (oLoc d)) :
    (oLoc d ↦{fullShare} f : sProp 𝕄) = bigSep Finset.univ fun c : Fin 2 => bigSep Finset.univ fun i : Fin 16 =>
      bigSep Finset.univ fun j : Fin 256 => oLoc d ↦[inRow (blockNo c i j)]{fullShare} f := by
  have h := pointsTo_biUnion (Val := Elt F) (Ix := HIx 1) (Name := ℕ) (U := UU) (Lvl := ℕ) (ℓ := oLoc d) (q := fullShare) (f := f) (Finset.univ : Finset ((Fin 2 × Fin 16) × Fin 256))
    (fun k => inRow (blockNo k.1.1 k.1.2 k.2)) (fun k _ l _ h => blocks_disjoint k l h)
  rw [blocks_cover] at h
  refine h.trans ?_
  rw [← Finset.univ_product_univ, SparseCore.bigSep_product, ← Finset.univ_product_univ, SparseCore.bigSep_product]

/-- The three arrays are what the tiles are dealt, over all of them. -/
theorem deal_eq (d : Dev nD) (xs : Buf (Elt F) (xLoc d)) (tb : Buf (Elt F) (tLoc d)) (o : Buf (Elt F) (oLoc d)) :
    (iprop((xLoc d ↦{fullShare} xs) ∗ (tLoc d ↦{fullShare} tb) ∗ oLoc d ↦{fullShare} o) : sProp 𝕄)
      = bigSep Finset.univ fun c : Fin 2 => bigSep Finset.univ fun i : Fin 16 => deal d xs tb o c i := by
  unfold deal
  simp only [bigSep_sep']
  rw [← shares_eq, ← shares_eq, ← blocks_eq]

/-! ## A tile's scratch and semaphores -/

section Tile

variable (d : Dev nD) (L : grid0.Coords)

/-- The semaphores a tile's copies use. -/
def tileSems : List (DmaSem sig) :=
  [semAt0 cc0_scratch7, semAt1 cc0_scratch7, semAt0 cc0_scratch8, semAt1 cc0_scratch8, semAt0 cc0_scratch9, semAt1 cc0_scratch9, cc0_scoped0.sem, cc0_scoped1.sem]

/-- A tile's buffers. -/
def tileRefs : List (Ref sig .scVector) :=
  [cc0_scratch0, cc0_scratch1, cc0_scratch2, cc0_scratch3, cc0_scratch4, cc0_scratch5, cc0_scratch6]

/-- Some listed members of what is held, and the rest. -/
theorem bigSep_listed {I J : Type} [DecidableEq J] (s : Finset J) (l : List I) (g : I → J) (hg : Function.Injective g) (hl : l.Nodup)
    (h : ∀ i ∈ l, g i ∈ s) (Φ : J → sProp 𝕄) : ∃ R : sProp 𝕄, bigSep s Φ = iprop(bigSepL l (fun i => Φ (g i)) ∗ R) := by
  have hs : (l.map g).toFinset ⊆ s := fun j hj => by
    obtain ⟨i, hi, rfl⟩ := List.mem_map.mp (List.mem_toFinset.mp hj)
    exact h i hi
  exact ⟨_, (SparseCore.bigSep_sdiff_split' hs).trans (congrArg (fun P => iprop(P ∗ bigSep (s \ (l.map g).toFinset) Φ))
    ((bigSep_eq_bigSepL _ (hl.map hg) Φ).trans (bigSepL_map g l Φ)))⟩

/-- A tile's semaphores at nought are those its copies use, and the rest. -/
theorem ownSems_eq : ∃ R : sProp 𝕄, (ownSems0 (me d L) : sProp 𝕄) = iprop(bigSepL tileSems (quiet (F := F) d L) ∗ R) := by
  have hsc : ∀ s ∈ tileSems, (SemLoc.dma s : SemLoc sig).isScoped .scVector = true := by decide
  exact bigSep_listed _ tileSems (fun s => ((me d L, SemLoc.dma s) : GSem nD τ sig)) (fun a b h => by injection h with _ h; injection h) (by decide)
    (fun s hs => mem_ownCells.mpr ⟨rfl, hsc s hs⟩) _

theorem own_whole (b : Ref sig .scVector) : (own d L (Memref.whole b) : sProp 𝕄) = iprop(∃ f, (me d L).loc b ↦{fullShare} f) := by
  unfold own
  rw [show (Memref.whole b).view.set = Finset.univ from View.set_whole b]

/-- A tile's buffers are its scratch, and the rest. -/
theorem ownBufs_eq : ∃ R : sProp 𝕄, (ownBufs (me d L) : sProp 𝕄)
    = iprop(bigSepL tileRefs (fun b => own d L (Memref.whole b)) ∗ R) := by
  simp only [own_whole]
  have ho : ∀ r ∈ tileRefs, ((Proc.scVector (cV L) (jV L)).devRef r).owner = .proc (.scVector (cV L) (jV L)) := by
    intro r hr
    simp only [tileRefs, List.mem_cons, List.mem_nil_iff, or_false] at hr
    rcases hr with rfl | rfl | rfl | rfl | rfl | rfl | rfl <;> rfl
  exact bigSep_listed _ tileRefs (Proc.scVector (cV L) (jV L)).devRef (Proc.devRef_injective _) (by decide)
    (fun r hr => SparseCore.Cfg.mem_ownRefs_of_owner (ho r hr)) _

theorem blk_eq (f : Buf (Elt F) (oLoc d)) (j : Fin 256) :
    (blk (d := d) (L := L) oV f j : sProp 𝕄) = oLoc d ↦[inRow (blockNo (Fin.cast rfl (L 0)) (Fin.cast rfl (L 1)) j)]{fullShare} f := by
  have hs : blockSet oV (base L + j.val) d L = inRow (blockNo (Fin.cast rfl (L 0)) (Fin.cast rfl (L 1)) j) := Finset.map_refl
  show ((oV).view.loc (me d L) ↦[blockSet oV (base L + j.val) d L]{fullShare} f : sProp 𝕄) = _
  rw [hs]

theorem part_x (q : PosShare TreeShare) (f : Buf (Elt F) (xLoc d)) : (part d L xV q f : sProp 𝕄) = xLoc d ↦{q} f := by
  unfold part
  rw [show (xV).view.set = Finset.univ from View.set_whole _]

theorem part_t (q : PosShare TreeShare) (f : Buf (Elt F) (tLoc d)) : (part d L tV q f : sProp 𝕄) = tLoc d ↦{q} f := by
  unfold part
  rw [show (tV).view.set = Finset.univ from View.set_whole _]

/-- The core and the tile of a subcore's grid coordinates. -/
abbrev cL : Fin 2 := Fin.cast rfl (L 0)
abbrev iL : Fin 16 := Fin.cast rfl (L 1)

variable [FloatOps F]

set_option maxHeartbeats 4000000 in
/-- The task on the subcore at coordinates `L`: from its share of the indices, all below the table's length, and of the
    table, its blocks of the pooled array come back pooled. -/
theorem tile_body (xs : Buf (Elt F) (xLoc d)) (tb : Buf (Elt F) (tLoc d)) (o G : Buf (Elt F) (oLoc d)) (hX : ∀ p, (xs p : BitVec 32).toNat < 100000)
    (hG : G = pooled (F := F) xs tb) (O : CellTallies nD τ sig (HIx 1)) (W : Waits sig (HIx 1)) (hO : ∀ g, O g none = 0) :
    iprop(levAts (K (F := F)).L (K (F := F)).lev ∗ emp ∗ deal d xs tb o (cL L) (iL L)
        ∗ scopedBufs (me d L) ∗ scopedSems0 (me d L) ∗ owes (me d L) O W)
      ⊢ wp frame (wpE (defs₀ (F := F)) 𝒱₀ (me d L) none) Set.univ
          (cc0_pool L xV (Memref.isWhole_whole _) tV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scratch9 cc0_scoped0 cc0_scoped1)
          fun _ => iprop(deal d xs tb G (cL L) (iL L) ∗ scopedBufs (me d L) ∗ scopedSems0 (me d L)
            ∗ ∃ W', ⌜∀ p ∈ W', p ∈ W ∨ p.2 = none⌝ ∗ owes (me d L) O W') := by
  obtain ⟨RS, hRS⟩ := ownSems_eq (F := F) d L
  obtain ⟨RB, hRB⟩ := ownBufs_eq (F := F) d L
  simp only [tileSems, bigSepL_cons', bigSepL_nil] at hRS
  simp only [tileRefs, bigSepL_cons', bigSepL_nil] at hRB
  have hX' : ∀ p, ((xV).view.read (Elt F) xs p).toNat < 100000 := hX
  have hG' : (oV).view.read (Elt F) G = pooled ((xV).view.read (Elt F) xs) ((tV).view.read (Elt F) tb) := hG
  have hb : ∀ f : Buf (Elt F) (oLoc d), (bigSep Finset.univ (blk (d := d) (L := L) oV f) : sProp 𝕄)
      = bigSep Finset.univ fun j : Fin 256 => oLoc d ↦[inRow (blockNo (cL L) (iL L) j)]{fullShare} f := fun f => bigSep_congr fun j _ => blk_eq d L f j
  unfold deal
  rw [pool_eq, (K (F := F)).scopedBufs_V facts d (cV L) (jV L), SparseCore.Cfg.scopedSems0_V (Val := Elt F) d (cV L) (jV L), hRS, hRB, ← hb, ← hb,
    ← part_x, ← part_t]
  iintro ⟨#Hlv, -, ⟨Hx, Ht, Ho⟩, ⟨⟨H5, H6, H7, H8, H9, H10, H11, He⟩, HRB⟩, ⟨⟨S0, S1, S2, S3, S4, S5, S6, S7, Hs⟩, HRS⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_pool (x := xV) (t := tV) (o := oV) (Memref.isWhole_whole cc0_scratch0) (Memref.isWhole_whole cc0_scratch1) (b7 := Memref.whole cc0_scratch2)
    (b8 := Memref.whole cc0_scratch3) (Memref.isWhole_whole cc0_scratch4) (Memref.isWhole_whole cc0_scratch5) (sx := cc0_scratch7) (sg := cc0_scratch8)
    (so := cc0_scratch9) (fo := o) (O := O) (W := W) (Memref.isWhole_whole cc0_scratch6) cc0_scoped0 cc0_scoped1 hX' hG')
    $$ [Hx Ht Ho H5 H6 H7 H8 H9 H10 H11 S0 S1 S2 S3 S4 S5 S6 S7 HO]
  · isplitl [Hx]; · iexact Hx
    isplitl [Ht]; · iexact Ht
    isplitl [Ho]; · iexact Ho
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [HO]
    · iapply (Entails.of_eq (owing_def d L O W).symm)
      iexists W
      isplitr
      · ipureintro; exact fun p hp => .inl hp
      · iexact HO
    iexact Hmw
  iintro ⟨Hx, Ht, Ho, H5, H6, H7, H8, H9, H10, H11, S0, S1, S2, S3, S4, S5, S6, S7, HO⟩
  isplitl [Hx Ht Ho]
  · isplitl [Hx]; · iexact Hx
    isplitl [Ht]; · iexact Ht
    iexact Ho
  isplitl [H5 H6 H7 H8 H9 H10 H11 He HRB]
  · isplitl [H5 H6 H7 H8 H9 H10 H11 He]
    · isplitl [H5]; · iexact H5
      isplitl [H6]; · iexact H6
      isplitl [H7]; · iexact H7
      isplitl [H8]; · iexact H8
      isplitl [H9]; · iexact H9
      isplitl [H10]; · iexact H10
      isplitl [H11]; · iexact H11
      iexact He
    iexact HRB
  isplitl [S0 S1 S2 S3 S4 S5 S6 S7 Hs HRS]
  · isplitl [S0 S1 S2 S3 S4 S5 S6 S7 Hs]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hs
    iexact HRS
  iapply (Entails.of_eq (owing_def d L O W)); iexact HO

end Tile

end Cert.KernelIdeal.Pool
-- ==== Proof.Calls.lean ====
/-
  What the launch of the pooling kernel carries: each core is handed its tiles' shares, and hands them back with the
  blocks pooled. The tiles' obligation and the split of a core's share among its tiles.
-/
module

public import proofs.«01_k».proof.Proof.Tasks

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

variable (m : (ℓ : Loc nD τ sig) → Buf (Elt F) ℓ)

/-- The flat list of indices, as the host lays it out. -/
def flat (d : Dev nD) : Buf (Elt F) (xLoc d) :=
  shapeCast S3276800 (m ((SparseCore.T d).loc main_arg0)) shapeCasts_S16384x200_S3276800

/-- The table. -/
abbrev table (d : Dev nD) : Buf (Elt F) (tLoc d) := m (tLoc d)

/-- Every index of the problem is below the table's length. -/
def PreOK : Prop := ∀ (d : Dev nD) (p : S16384x200.Idx), (m ((SparseCore.T d).loc main_arg0) p : BitVec 32).toNat < 100000

theorem flat_lt (h : PreOK m) (d : Dev nD) (p : S3276800.Idx) : (flat m d p : BitVec 32).toNat < 100000 := by
  unfold flat shapeCast
  exact h d _

variable [FloatOps F]

/-- The pooled array of the launch memory. -/
def sums (d : Dev nD) : Buf (Elt F) (oLoc d) := pooled (F := F) (flat m d) (table m d)

/-- What all the tiles of a core are dealt. -/
@[irreducible] def deals (d : Dev nD) (xs : Buf (Elt F) (xLoc d)) (tb : Buf (Elt F) (tLoc d)) (o : Buf (Elt F) (oLoc d)) (c : Fin 2) : sProp 𝕄 :=
  bigSep Finset.univ fun i : Fin 16 => deal d xs tb o c i

theorem deal_storable (d : Dev nD) (xs : Buf (Elt F) (xLoc d)) (tb : Buf (Elt F) (tLoc d)) (o : Buf (Elt F) (oLoc d)) (c : Fin 2) (i : Fin 16) :
    BI.Storable (upEmb : UEmb _ 𝕄) (deal d xs tb o c i) := by
  unfold deal; infer_instance

theorem deals_storable (d : Dev nD) (xs : Buf (Elt F) (xLoc d)) (tb : Buf (Elt F) (tLoc d)) (o : Buf (Elt F) (oLoc d)) (c : Fin 2) :
    BI.Storable (upEmb : UEmb _ 𝕄) (deals d xs tb o c) := by
  unfold deals
  have := fun i => deal_storable d xs tb o c i
  infer_instance

/-- What the calls carry: to a core, its tiles' shares with the pooled array as launched; back, the same with it
    pooled; to a tile and back, its own part. -/
def P : (K (F := F)).Pay (nD := nD) (Val := Elt F) (Name := ℕ) (U := UU) where
  st := fun q d c => match q with
    | 0 => deals d (flat m d) (table m d) (m (oLoc d)) (Fin.cast nCore_zero c)
  dn := fun q d c => match q with
    | 0 => deals d (flat m d) (table m d) (sums m d) (Fin.cast nCore_zero c)
  go := fun q d c i => match q with | 0 => deal d (flat m d) (table m d) (m (oLoc d)) (Fin.cast nCore_zero c) (Fin.cast nSub_zero i)
  td := fun q d c i => match q with | 0 => deal d (flat m d) (table m d) (sums m d) (Fin.cast nCore_zero c) (Fin.cast nSub_zero i)
  x := fun _ _ => iprop(emp)

instance P_storable : (P (F := F) m).IsStorable where
  st q d c := match q with | 0 => deals_storable ..
  dn q d c := match q with | 0 => deals_storable ..
  go q d c i := match q with | 0 => deal_storable ..
  td q d c i := match q with | 0 => deal_storable ..

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_pool (coordsV c s) (Memref.whole main_v0_scv) (Memref.isWhole_whole _)
          (Memref.whole main_arg2_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8 cc0_scratch9 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Each tile does what the launch asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) (flat m d) (table m d) (m (oLoc d)) (sums m d) (flat_lt m hpre d) rfl O W hO).trans
    (wp_mono frame _ _ fun _ => obl_post)

/-! ## A core's share among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show deals d (flat m d) (table m d) (m (oLoc d)) (Fin.cast nCore_zero c)
    ⊢ |={Set.univ}=> iprop((bigSep Finset.univ fun i : Fin ((K (F := F)).nSub 0) =>
        deal d (flat m d) (table m d) (m (oLoc d)) (Fin.cast nCore_zero c) (Fin.cast nSub_zero i))
      ∗ ((bigSep Finset.univ fun i : Fin ((K (F := F)).nSub 0) =>
          deal d (flat m d) (table m d) (sums m d) (Fin.cast nCore_zero c) (Fin.cast nSub_zero i))
        -∗ deals d (flat m d) (table m d) (sums m d) (Fin.cast nCore_zero c)))
  rw [bigSep_tasks (F := F) (fun i => deal d (flat m d) (table m d) (m (oLoc d)) (Fin.cast nCore_zero c) i),
    bigSep_tasks (F := F) (fun i => deal d (flat m d) (table m d) (sums m d) (Fin.cast nCore_zero c) i)]
  unfold deals
  iintro H
  imodintro
  isplitl [H]; · iexact H
  iintro H
  iexact H

/-! ## The call's two ends -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem deals_eq (d : Dev nD) (xs : Buf (Elt F) (xLoc d)) (tb : Buf (Elt F) (tLoc d)) (o : Buf (Elt F) (oLoc d)) :
    (iprop((xLoc d ↦{fullShare} xs) ∗ (tLoc d ↦{fullShare} tb) ∗ oLoc d ↦{fullShare} o) : sProp 𝕄) = bigSep Finset.univ fun c : Fin 2 => deals d xs tb o c := by
  rw [deal_eq]
  unfold deals
  rfl

/-- The call is started from the flat indices, the table and the pooled array. -/
theorem st_eq (d : Dev nD) : (bigSep Finset.univ fun c : Fin ((K (F := F)).nCore 0) => (P m).st 0 d c)
    = iprop((xLoc d ↦{fullShare} flat m d) ∗ (tLoc d ↦{fullShare} table m d) ∗ oLoc d ↦{fullShare} m (oLoc d)) :=
  (bigSep_cores fun c => deals d (flat m d) (table m d) (m (oLoc d)) c).trans (deals_eq d _ _ _).symm

/-- The call hands them back, the array pooled. -/
theorem dn_eq (d : Dev nD) : (bigSep Finset.univ fun c : Fin ((K (F := F)).nCore 0) => (P m).dn 0 d c)
    = iprop((xLoc d ↦{fullShare} flat m d) ∗ (tLoc d ↦{fullShare} table m d) ∗ oLoc d ↦{fullShare} sums m d) :=
  (bigSep_cores fun c => deals d (flat m d) (table m d) (sums m d) c).trans (deals_eq d _ _ _).symm

end Cert.KernelIdeal.Pool
-- ==== Proof.Region.lean ====
/-
  The projection region: the TensorCore's pipelined kernel on sixteen blocks of a thousand and twenty-four rows. What the
  body leaves in the result's staging buffer, the region's proof data, and the result's array when the region is over.
-/
module

public import proofs.«01_k».proof.Proof.Calls
public import proofs.«01_k».proof.Proof.Gen.KernelIdeal.Launch
public import proofs.«01_k».proof.Proof.Gen.KernelIdeal.Points
public import proofs.«01_k».proof.Proof.Gen.KernelIdeal.Skeleton
public import Idealize.ShloMosaic.Lib.VecWindow
public import Idealize.ShloMosaic.Lib.Pipeline.RegionsLoop
public import Idealize.ShloMosaic.Lib.Pipeline.FrameBody
public import Idealize.ShloMosaic.Lib.Pipeline.Value

@[expose] public section

noncomputable section

namespace Cert.KernelIdeal.Pool

open Cert.KernelIdeal Cert.KernelIdeal.Gen
open Idealize.ShloMosaic
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

variable [FloatOps F]

/-! ## The body -/

/-- The TensorCore's thread of a device. -/
abbrev tT (d : Dev nD) : Thread nD τ := SparseCore.T d

/-- A program of the TensorCore run by the kernels' own definitions. -/
abbrev tcp {α : Type} (d : Dev nD) (p : Prog (TpuEff nD τ sig (Elt F) Λ₀ .tc) α) (Q : α → sProp 𝕄) : sProp 𝕄 :=
  wp frame (wpE (defs₀ (F := F)) 𝒱₀ (tT d) none) Set.univ p Q

theorem tcp_pure {d : Dev nD} {α : Type} {a : α} {Q : α → sProp 𝕄} : Q a ⊢ tcp d (pure a) Q := by
  show Q a ⊢ wp frame _ _ (pure a) Q
  rw [wp_pure]
  iintro H
  imodintro
  iexact H

/-- Loading a whole buffer yields what it holds. -/
theorem wp_ldAll (d : Dev nD) {s : Shape} {e : EltTy} (m : Memref sig .tc .vmem s e) {off : Fin s.rank → ℕ} (inb : ∀ a, off a + s.size a ≤ s.size a)
    {hl : m.view.LoadsAt (Rect.unit off s.size inb).toLoadRect} {X : s.Idx → Elt F e} {α : Type} {K : (s.Idx → Elt F e) → Prog (TpuEff nD τ sig (Elt F) Λ₀ .tc) α} {Q : α → sProp 𝕄} :
    (owns (tT d) m fullShare X : sProp 𝕄)
      ⊢ iprop((owns (tT d) m fullShare X -∗ tcp d (K X) Q)
          -∗ tcp d ((Prog.lift (.load m (Rect.unit off s.size inb).toLoadRect hl) : Prog (TpuEff nD τ sig (Elt F) Λ₀ .tc) (s.Idx → Elt F e)) >>= K) Q) := by
  unfold owns
  iintro ⟨%f, %hf, H⟩ Hk
  iapply (wp_load 𝒱₀ (tT d) none Set.univ (m := m) (View.setOn_subset_set _ _)) $$ H
  iintro H
  rw [View.readAt_full m.view f inb, hf]
  iapply Hk
  iexists f
  isplitr
  · ipureintro; exact hf
  iexact H

/-- Storing over a whole buffer leaves it holding what was stored. -/
theorem wp_stAll (d : Dev nD) {s : Shape} {e : EltTy} (m : Memref sig .tc .vmem s e) {off : Fin s.rank → ℕ} (inb : ∀ a, off a + s.size a ≤ s.size a)
    {w : s.Idx → Elt F e} {hx : (m.access (Rect.unit off s.size inb)).Stores Finset.univ}
    {hm : (Finset.univ : Finset s.Idx) = Finset.univ ∨ ∀ a, (Rect.unit off s.size inb).stride a = 1}
    {X : s.Idx → Elt F e} {α : Type} {K : PUnit → Prog (TpuEff nD τ sig (Elt F) Λ₀ .tc) α} {Q : α → sProp 𝕄} :
    (owns (tT d) m fullShare X : sProp 𝕄)
      ⊢ iprop((owns (tT d) m fullShare w -∗ tcp d (K ⟨⟩) Q)
          -∗ tcp d ((Prog.lift (.store m (Rect.unit off s.size inb) w Finset.univ hx hm) : Prog (TpuEff nD τ sig (Elt F) Λ₀ .tc) PUnit) >>= K) Q) := by
  have hr : ∀ f : Buf (Elt F) (m.view.loc (tT d)),
      m.view.read (Elt F) ((m.access (Rect.unit off s.size inb)).write (Elt F) f w Finset.univ) = w := fun f => by
    rw [← View.readAt_full m.view _ inb]
    exact View.read_write_univ _ _
  unfold owns
  iintro ⟨%f, %hf, H⟩ Hk
  iapply (wp_store 𝒱₀ (tT d) none Set.univ (m := m) (r := Rect.unit off s.size inb) (View.set_slice_subset _ _)) $$ H
  iintro H
  iapply Hk
  iexists ((m.access (Rect.unit off s.size inb)).write (Elt F) f w Finset.univ)
  isplitr
  · ipureintro; exact hr f
  iexact H

/-- The body of the projection: the four staged operands are as they were, and the result's buffer holds the block
    divided by its lengths, multiplied by the matrix and shifted. -/
theorem wp_proj (d : Dev nD) (i : grid1.Coords) (M0 : Memref sig .tc .vmem S1024x128 .f32) (h0 : M0.IsWhole) (M1 : Memref sig .tc .vmem S1024x1 .f32) (h1 : M1.IsWhole)
    (M2 : Memref sig .tc .vmem S128x128 .f32) (h2 : M2.IsWhole) (M3 : Memref sig .tc .vmem S1x128 .f32) (h3 : M3.IsWhole) (M4 : Memref sig .tc .vmem S1024x128 .f32) (h4 : M4.IsWhole)
    (X0 : Vec F S1024x128 .f32) (X1 : Vec F S1024x1 .f32) (X2 : Vec F S128x128 .f32) (X3 : Vec F S1x128 .f32) (X4 : Vec F S1024x128 .f32) (Q : PUnit → sProp 𝕄) :
    iprop(owns (tT d) M0 fullShare X0 ∗ owns (tT d) M1 fullShare X1 ∗ owns (tT d) M2 fullShare X2
        ∗ owns (tT d) M3 fullShare X3 ∗ owns (tT d) M4 fullShare X4
        ∗ (iprop(owns (tT d) M0 fullShare X0 ∗ owns (tT d) M1 fullShare X1 ∗ owns (tT d) M2 fullShare X2
            ∗ owns (tT d) M3 fullShare X3 ∗ owns (tT d) M4 fullShare (k1_pay1 X0 X1 X2 X3)) -∗ Q ⟨⟩))
      ⊢ tcp d (cc1__proj_kernel i M0 h0 M1 h1 M2 h2 M3 h3 M4 h4) Q := by
  rw [cc1__proj_kernel_eq_skeleton]
  unfold cc1__proj_kernel_skel
  iintro ⟨H0, H1, H2, H3, H4, Hk⟩
  iapply (wp_ldAll d M0 _) $$ H0; iintro H0
  iapply (wp_ldAll d M1 _) $$ H1; iintro H1
  iapply (wp_ldAll d M2 _) $$ H2; iintro H2
  iapply (wp_ldAll d M3 _) $$ H3; iintro H3
  iapply (wp_ldAll d M4 _) $$ H4; iintro H4
  iapply (wp_stAll d M4 _) $$ H4; iintro H4
  iapply tcp_pure
  iapply Hk
  isplitl [H0]; · iexact H0
  isplitl [H1]; · iexact H1
  isplitl [H2]; · iexact H2
  isplitl [H3]; · iexact H3
  iexact H4

/-! ## The proof data -/

variable (V : (c : Dev nD) → (b : Ref sig .tc) → Buf (Elt F) ((tT c).loc b))

/-- The block of an operand's array that the pipeline stages at a point. -/
abbrev blkOf (c : Dev nD) (w : Fin 5) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer at a point. -/
abbrev outOf (c : Dev nD) (t : Fin cfg1.N) : Vec F S1024x128 .f32 :=
  k1_pay1 (blkOf V c 0 t) (blkOf V c 1 t) (blkOf V c 2 t) (blkOf V c 3 t)

/-- The waits that the core may have recorded when the region is entered. -/
def noted (c : Dev nD) : Set (SemLoc sig × HIx 1) := {p | (K (F := F)).lev (tT c, p.1) p.2 ≤ 8}

/-- The proof data of the region: the arrays as they are at its entry; each operand's buffer left as it was staged and
    the result's holding what the body computes; nothing owed. -/
def dat (c : Dev nD) : Dat τ (Elt F) (HIx 1) ℕ UU ℕ cfg1 c where
  A w := V c (Pipeline.arrRef spec1 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => outOf V c t
  Φ _ := BI.emp
  q _ := fullShare
  owed _ := 0
  recorded _ := noted (F := F) c

theorem before_0 (c : Dev nD) (t : Fin cfg1.N) (x : (cfg1.win 0).block.Idx → Elt F (cfg1.win 0).elt) : (dat V c).before 0 t x = blkOf V c 0 t :=
  ((dat V c).before_in_eq_fetched 0 rfl (fun _ => rfl) (fun _ _ _ => rfl) (fun _ => rfl) t x).trans rfl

theorem before_1 (c : Dev nD) (t : Fin cfg1.N) (x : (cfg1.win 1).block.Idx → Elt F (cfg1.win 1).elt) : (dat V c).before 1 t x = blkOf V c 1 t :=
  ((dat V c).before_in_eq_fetched 1 rfl (fun _ => rfl) (fun _ _ _ => rfl) (fun _ => rfl) t x).trans rfl

theorem before_2 (c : Dev nD) (t : Fin cfg1.N) (x : (cfg1.win 2).block.Idx → Elt F (cfg1.win 2).elt) : (dat V c).before 2 t x = blkOf V c 2 t :=
  ((dat V c).before_in_eq_fetched 2 rfl (fun _ => rfl) (fun _ _ _ => rfl) (fun _ => rfl) t x).trans rfl

theorem before_3 (c : Dev nD) (t : Fin cfg1.N) (x : (cfg1.win 3).block.Idx → Elt F (cfg1.win 3).elt) : (dat V c).before 3 t x = blkOf V c 3 t :=
  ((dat V c).before_in_eq_fetched 3 rfl (fun _ => rfl) (fun _ _ _ => rfl) (fun _ => rfl) t x).trans rfl

/-- The body does at every point what the proof data says. -/
theorem body_ok (c : Dev nD) : BodyObligation (dat V c) (defs₀ (F := F)) 𝒱₀ ι₀ Set.univ := fun t => by
  rw [bigSep_W1, bigSep_W1]
  simp only [before_0, before_1, before_2, before_3]
  rw [show (dat V c).Φ t.castSucc = BI.emp from rfl, show (dat V c).Φ t.succ = BI.emp from rfl,
    show (dat V c).owesAt ι₀ t.succ = (dat V c).owesAt ι₀ t.castSucc from rfl]
  iintro ⟨-, HO, ⟨%_, H0⟩, ⟨%_, H1⟩, ⟨%_, H2⟩, ⟨%_, H3⟩, ⟨%_, H4⟩⟩
  iapply (wp_proj c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4))
    (blkOf V c 0 t) (blkOf V c 1 t) (blkOf V c 2 t) (blkOf V c 3 t) _ _)
  isplitl [H0]; · iexact H0
  isplitl [H1]; · iexact H1
  isplitl [H2]; · iexact H2
  isplitl [H3]; · iexact H3
  isplitl [H4]; · iexact H4
  iintro ⟨H0, H1, H2, H3, H4⟩
  isplitr; · iempintro
  isplitl [HO]; · iexact HO
  isplitl [H0]; · iexact H0
  isplitl [H1]; · iexact H1
  isplitl [H2]; · iexact H2
  isplitl [H3]; · iexact H3
  iexact H4

end Cert.KernelIdeal.Pool

end
-- ==== Proof.Segment.lean ====
/-
  The projection as one segment of the host program: what it is entered from, what it leaves, and the result's array
  when it is over.
-/
module

public import proofs.«01_k».proof.Proof.Region
public import Idealize.ShloMosaic.Lib.Pipeline.ValueKit

@[expose] public section

noncomputable section

namespace Cert.KernelIdeal.Pool

open Cert.KernelIdeal Cert.KernelIdeal.Gen
open Idealize.ShloMosaic
open Idealize.ShloMosaic.TcCoe
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

variable [FloatOps F]

/-! ## The result's array -/

variable (V : (c : Dev nD) → (b : Ref sig .tc) → Buf (Elt F) ((tT c).loc b))

/-- The block that a row of the result lies in, and the row's place there. -/
abbrev blkNo (z : S16384x128.Idx) : Fin cfg1.N := ⟨(z 0).val / 1024, by
  have h := (z 0).isLt; rw [show cfg1.N = 16 from N_1]; change (z 0).val < 16384 at h; omega⟩
abbrev inBlk (z : S16384x128.Idx) : S1024x128.Idx := fun | 0 => ⟨(z 0).val % 1024, Nat.mod_lt _ (by decide)⟩ | 1 => ⟨(z 1).val, (z 1).isLt⟩

/-- The result's array: every block what the body computes there. -/
def projected (c : Dev nD) : Buf (Elt F) ((tT c).loc main_v5) := fun z => outOf V c (blkNo z) (inBlk z)

theorem index_row : ∀ t : Fin cfg1.N, win1_4.index t 0 = t.val := by decide +kernel
theorem index_col : ∀ t : Fin cfg1.N, win1_4.index t 1 = 0 := by decide +kernel

/-- Where the result's block places a row, and a column. -/
theorem emb_row (t : Fin cfg1.N) (y : S1024x128.Idx) : (((win1_4.blk t).view.emb y) 0).val = t.val * 1024 + (y 0).val := by
  have h : (((win1_4.blk t).view.emb y) 0).val = win1_4.index t 0 * 1024 + 1 * (y 0).val := rfl
  rw [h, index_row]; omega

theorem emb_col (t : Fin cfg1.N) (y : S1024x128.Idx) : (((win1_4.blk t).view.emb y) 1).val = (y 1).val := by
  have h : (((win1_4.blk t).view.emb y) 1).val = win1_4.index t 1 * 128 + 1 * (y 1).val := rfl
  rw [h, index_col]; omega

/-- An index that a block places is in that block, at its own place. -/
theorem blkNo_emb (t : Fin cfg1.N) (y : S1024x128.Idx) : blkNo ((win1_4.blk t).view.emb y) = t := by
  have h0 := emb_row t y
  have hy : (y 0).val < 1024 := (y 0).isLt
  apply Fin.ext
  show (((win1_4.blk t).view.emb y) 0).val / 1024 = t.val
  omega

theorem inBlk_emb (t : Fin cfg1.N) (y : S1024x128.Idx) : inBlk ((win1_4.blk t).view.emb y) = y := by
  have h0 := emb_row t y
  have h1 := emb_col t y
  have hy : (y 0).val < 1024 := (y 0).isLt
  funext a
  match a with
  | 0 => apply Fin.ext; show (((win1_4.blk t).view.emb y) 0).val % 1024 = (y 0).val; omega
  | 1 => apply Fin.ext; exact h1

theorem arr_out (c : Dev nD) : (dat V c).arrAt 4 cfg1.N = projected V c := by
  refine (dat V c).arrAt_eq_of_covers 4 _ (by decide +kernel) fun t hf y => ?_
  blk_simp
  show outOf V c t y = outOf V c (blkNo ((win1_4.blk t).view.emb y)) (inBlk ((win1_4.blk t).view.emb y))
  rw [blkNo_emb, inBlk_emb]

/-! ## The segment -/

/-- No table is prefetched. -/
abbrev adm : (p : Fin 1) → (pcfgs (F := F) p).Adm := fun p => (cfgs p).toPCfg_adm

/-- The proof data of the only pipeline. -/
def pdats : (p : Fin 1) → (c : Dev nD) → Dat τ (Elt F) (HIx 1) ℕ UU ℕ (Pipeline.pin (pcfgs (F := F)) adm p) c
  | ⟨0, _⟩ => fun c => dat V c

/-- The TensorCore owes nothing, and no wait that it has recorded is above the pooling's. -/
abbrev idle (c : Dev nD) : sProp 𝕄 := iprop(∃ W, ⌜(K (F := F)).WBelow (tT c) W 8⌝ ∗ owes (tT c) (0 : CellTallies nD τ sig (HIx 1)) W)

/-- The four operands' arrays, and the result's. -/
abbrev held (c : Dev nD) (o : Buf (Elt F) ((tT c).loc main_v5)) : sProp 𝕄 :=
  iprop(((tT c).loc main_v2 ↦{fullShare} V c main_v2) ∗ ((tT c).loc main_v3 ↦{fullShare} V c main_v3) ∗ ((tT c).loc main_arg3 ↦{fullShare} V c main_arg3)
    ∗ ((tT c).loc main_v4 ↦{fullShare} V c main_v4) ∗ ((tT c).loc main_v5 ↦{fullShare} o))

set_option backward.isDefEq.respectTransparency.types false in
/-- The segment: entered from the five arrays, left with the result's at the projection. -/
def seg : Pipeline.RegionSeg (pcfgs (F := F)) adm (pdats V) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_ok V c).loose
  hwaits := Pipeline.hwaits_of_owed_zero _ _ _ _ (K (F := F)).L (K (F := F)).lev 0 fun _ _ => rfl
  pre c := iprop(held V c (V c main_v5) ∗ idle c)
  post c := iprop(held V c (projected V c) ∗ idle c)
  X _ := BI.emp
  Y _ := BI.emp
  Z _ := BI.emp
  hentry c := by
    rw [Pipeline.ownSems0_none, Pipeline.arrays_eq (p := 0) (Pipeline.pin (pcfgs (F := F)) adm) (pdats V) c launch1.arr_whole
      ((pdats V 0 c).share_full fun _ => rfl), bigSep_W1]
    iintro ⟨⟨⟨H0, H1, H2, H3, H4⟩, %W, %hW, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats V 0 c).Φ 0 = BI.emp from rfl]
    iintro -; iempintro
  hout c := by
    rw [Pipeline.ownSems0_none, show (pdats V 0 c).Φ (Fin.last _) = BI.emp from rfl, scopedRest1_eq]
    iintro -
    isplitr; · iempintro
    isplitr; · iempintro
    iempintro
  hexit c := by
    rw [Pipeline.arrays_eq (p := 0) (Pipeline.pin (pcfgs (F := F)) adm) (pdats V) c launch1.arr_whole
      ((pdats V 0 c).share_full fun _ => rfl), bigSep_W1]
    have e0 := (dat V c).arrAt_in 0 rfl cfg1.N
    have e1 := (dat V c).arrAt_in 1 rfl cfg1.N
    have e2 := (dat V c).arrAt_in 2 rfl cfg1.N
    have e3 := (dat V c).arrAt_in 3 rfl cfg1.N
    have e4 := arr_out V c
    have ha : iprop(((tT c).loc main_v2 ↦{fullShare} (dat V c).arrAt 0 cfg1.N) ∗ ((tT c).loc main_v3 ↦{fullShare} (dat V c).arrAt 1 cfg1.N)
        ∗ ((tT c).loc main_arg3 ↦{fullShare} (dat V c).arrAt 2 cfg1.N) ∗ ((tT c).loc main_v4 ↦{fullShare} (dat V c).arrAt 3 cfg1.N)
        ∗ ((tT c).loc main_v5 ↦{fullShare} (dat V c).arrAt 4 cfg1.N)) ⊢ held V c (projected V c) := by
      rw [e0, e1, e2, e3, e4]
      exact .rfl
    iintro ⟨Ha, HO, -, -⟩
    imodintro
    isplitl [Ha]; · iapply ha; iexact Ha
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.KernelIdeal.Pool

end
-- ==== Proof.Host.lean ====
/-
  The host program's own steps: a reshape, the ghost state that the launch deals out, and the buffers' contents on the way.
-/
module

public import proofs.«01_k».proof.Proof.Segment
public import Idealize.ShloMosaic.Lib.SparseCore.Quiescent

@[expose] public section

noncomputable section

namespace Cert.KernelIdeal.Pool

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

variable [FloatOps F]
variable (m : (ℓ : Loc nD τ sig) → Buf (Elt F) ℓ) (ρ : Dev nD → PrngReg)

/-! ## A reshape on the host -/

/-- A program of the TensorCore run by the whole program's definitions. -/
abbrev hwp {α : Type} (d : Dev nD) (p : Prog (TpuEff nD τ sig (Elt F) (SparseCore.Sig (Pipeline.Sig Λ₀ (Fin 1) fun p => (pcfgs (F := F) p).Adm) 1) .tc) α) (Q : α → sProp 𝕄) : sProp 𝕄 :=
  wp frame (wpE ((K (F := F)).defs (D (F := F))) 𝒱 (tT d) none) Set.univ p Q

include m in
/-- A reshape leaves its operand as it was and its result holding the operand's elements in their order. -/
theorem wp_reshape (d : Dev nD) {x y : Ref sig .tc} (he : x.ty.elt = y.ty.elt) (hn : x.ty.shape.ShapeCasts y.ty.shape)
    (hx : x.space ≠ .host ∧ (x : DevRef τ sig).isScoped = false) (hy : y.space ≠ .host ∧ (y : DevRef τ sig).isScoped = false)
    (hne : (Proc.devRef .tc x : DevRef τ sig) ≠ Proc.devRef .tc y)
    (f : Buf (Elt F) ((tT d).loc x)) (g : Buf (Elt F) ((tT d).loc y)) (Q : PUnit → sProp 𝕄) :
    iprop(boundary (tT d) ∗ ((tT d).loc x ↦{fullShare} f) ∗ ((tT d).loc y ↦{fullShare} g))
      ⊢ iprop((iprop(boundary (tT d) ∗ ((tT d).loc x ↦{fullShare} f) ∗ ((tT d).loc y ↦{fullShare} (fun i => he ▸ shapeCast y.ty.shape f hn i : Buf (Elt F) ((tT d).loc y)))) -∗ Q ⟨⟩)
      -∗ hwp d (hlo rfl (StableHlo.reshape x y he hn hx hy) (fun _ => .ret ⟨⟩)) Q) := by
  let W : Valuation τ sig (Elt F) := Function.update (Function.update (fun b => m (d, b)) (Proc.devRef .tc x) f) (Proc.devRef .tc y) g
  have hWx : W (Proc.devRef .tc x) = f := (Function.update_of_ne hne _ _).trans (Function.update_self _ _ _)
  have hWy : W (Proc.devRef .tc y) = g := Function.update_self _ _ _
  have hpre : iprop(boundary (tT d) ∗ ((tT d).loc x ↦{fullShare} f) ∗ ((tT d).loc y ↦{fullShare} g))
      ⊢ (iprop(boundary (tT d) ∗ bigSep (StableHlo.reshape (τ := τ) (Val := Elt F) x y he hn hx hy).bufs (fun b => ((tT d).1, b) ↦{fullShare} W b)) : sProp 𝕄) := by
    rw [StableHlo.reshape_bufs, SparseCore.bigSep_insert' (by simpa using hne), bigSep_singleton, hWx, hWy]
  have hpost : (iprop(boundary (tT d) ∗ bigSep (StableHlo.reshape (τ := τ) (Val := Elt F) x y he hn hx hy).bufs
        (fun b => ((tT d).1, b) ↦{fullShare} (StableHlo.reshape (τ := τ) (Val := Elt F) x y he hn hx hy).result W b)) : sProp 𝕄)
      ⊢ iprop(boundary (tT d) ∗ ((tT d).loc x ↦{fullShare} f) ∗ ((tT d).loc y ↦{fullShare} (fun i => he ▸ shapeCast y.ty.shape f hn i : Buf (Elt F) ((tT d).loc y)))) := by
    rw [StableHlo.reshape_bufs, SparseCore.bigSep_insert' (by simpa using hne), bigSep_singleton, StableHlo.reshape_result',
      HloOp.result_of_not_mem _ _ (by rw [StableHlo.reshape_writes]; simpa using hne), hWx]
  iintro H Hk
  ihave H := hpre $$ H
  iapply (wp_hlo 𝒱 (tT d) none Set.univ (q := fun _ => fullShare) (fun _ _ => rfl)) $$ H
  iintro H
  ihave H := hpost $$ H
  rw [wp_ret]
  imodintro
  iapply Hk
  iexact H

/-! ## The ghost state -/

/-- The handshakes' ghost state, and the pipeline's. -/
abbrev EH : Emb UH 𝕄 := embL
def EP : Emb UP 𝕄 := (Emb.inl : Emb UP (UP × Counters)).trans embR
instance : (EP (F := F)).LandsIn (upEmb : UEmb _ 𝕄) := by unfold EP; infer_instance

/-- The pipeline of the projection, its tables pinned. -/
abbrev pinned : Fin 1 → Pipeline.Cfg sig Λ₀ := Pipeline.pin (pcfgs (F := F)) adm

theorem pinned_inj : Function.Injective (Pipeline.cellOf (nD := nD) (τ := τ) (pinned (F := F))) := cellOf_inj

/-- What a device's TensorCore is dealt for the projection's transfers. -/
def toks (d : Dev nD) : sProp 𝕄 :=
  iprop(Pipeline.cellsGhost (pinned (F := F)) EP 0 d ∗ Pipeline.toksInit (pinned (F := F)) EP 0 d)

def u₀ : UU := (initOf (K (F := F)).hsCells (K (F := F)).hsToks,
  (initOf (Pipeline.cells (pinned (F := F)) pinned_inj) (Pipeline.launchToks (pinned (F := F)) pinned_inj), 1))

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => toks (F := F) d)
        ∗ bigSep Finset.univ fun thr : Thread nD τ => bigSep Finset.univ fun q : Fin 1 => (P m).x q thr) := by
  have hR : ∀ (a : UP) (b : Counters), (BI.own ((embR : Emb (UP × Counters) 𝕄) (a, b)) : sProp 𝕄) ⊢ iprop(BI.own (EP (F := F) a) ∗ BI.own (((Emb.inr : Emb Counters (UP × Counters)).trans embR) b)) :=
    fun a b => own_pair_emb _ a b
  have hg : (bigSep Finset.univ fun c : Dev nD => bigSep Finset.univ fun p => Pipeline.cellsGhost (pinned (F := F)) EP p c : sProp 𝕄)
      = bigSep Finset.univ fun c : Dev nD => Pipeline.cellsGhost (pinned (F := F)) EP 0 c := bigSep_congr fun _ _ => bigSep_univ_of_subsingleton (0 : Fin 1)
  have ht : (bigSep Finset.univ fun c : Dev nD => bigSep Finset.univ fun p => Pipeline.toksInit (pinned (F := F)) EP p c : sProp 𝕄)
      = bigSep Finset.univ fun c : Dev nD => Pipeline.toksInit (pinned (F := F)) EP 0 c := bigSep_congr fun _ _ => bigSep_univ_of_subsingleton (0 : Fin 1)
  unfold u₀
  iintro Hu
  ihave H := (ownU_pair _ _) $$ Hu
  icases H with ⟨HH, HR⟩
  ihave H := (hR _ _) $$ HR
  icases H with ⟨HP, -⟩
  imod (Pipeline.fund_ghost (pinned (F := F)) EP pinned_inj) $$ HP with ⟨Hg, Ht⟩
  imodintro
  isplitl [HH]; · iexact HH
  isplitl [Hg Ht]
  · unfold toks
    rw [bigSep_sep']
    isplitl [Hg]
    · ihave Hg := (Entails.of_eq hg) $$ Hg
      iexact Hg
    · ihave Ht := (Entails.of_eq ht) $$ Ht
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## The host program -/

/-- The pooled bags as rows, the lengths as a column, the shift as a row: the projection's operands. -/
def bags (d : Dev nD) : Buf (Elt F) ((tT d).loc main_v2) := shapeCast S16384x128 (sums m d) shapeCasts_S8192x2x128_S16384x128
def lensCol (d : Dev nD) : Buf (Elt F) ((tT d).loc main_v3) := shapeCast S16384x1 (m ((tT d).loc main_arg1)) shapeCasts_S16384_S16384x1
def biasRow (d : Dev nD) : Buf (Elt F) ((tT d).loc main_v4) := shapeCast S1x128 (m ((tT d).loc main_arg4)) shapeCasts_S128_S1x128

/-- The buffers' contents when the projection is entered. -/
def entry (d : Dev nD) : (b : Ref sig .tc) → Buf (Elt F) ((tT d).loc b) :=
  Function.update (Function.update (Function.update (fun b => m ((tT d).loc b)) main_v2 (bags m d)) main_v3 (lensCol m d)) main_v4 (biasRow m d)

theorem entry_v2 (d : Dev nD) : entry m d main_v2 = bags m d := by
  unfold entry
  rw [Function.update_of_ne (by decide), Function.update_of_ne (by decide), Function.update_self]
theorem entry_v3 (d : Dev nD) : entry m d main_v3 = lensCol m d := by
  unfold entry
  rw [Function.update_of_ne (by decide), Function.update_self]
theorem entry_v4 (d : Dev nD) : entry m d main_v4 = biasRow m d := by
  unfold entry
  rw [Function.update_self]
theorem entry_arg3 (d : Dev nD) : entry m d main_arg3 = m ((tT d).loc main_arg3) := by
  unfold entry
  rw [Function.update_of_ne (by decide), Function.update_of_ne (by decide), Function.update_of_ne (by decide)]
theorem entry_v5 (d : Dev nD) : entry m d main_v5 = m ((tT d).loc main_v5) := by
  unfold entry
  rw [Function.update_of_ne (by decide), Function.update_of_ne (by decide), Function.update_of_ne (by decide)]

/-- What the program leaves in its result. -/
def result (d : Dev nD) : Buf (Elt F) ((tT d).loc main_v5) := projected (entry m) d

theorem unscoped_eq (d : Dev nD) (W : (b : Ref sig .tc) → Buf (Elt F) ((tT d).loc b)) :
    (unscopedBufs d W : sProp 𝕄) = iprop(((tT d).loc main_arg0 ↦{fullShare} W main_arg0) ∗ ((tT d).loc main_arg1 ↦{fullShare} W main_arg1)
      ∗ ((tT d).loc main_arg2 ↦{fullShare} W main_arg2) ∗ ((tT d).loc main_arg3 ↦{fullShare} W main_arg3) ∗ ((tT d).loc main_arg4 ↦{fullShare} W main_arg4)
      ∗ ((tT d).loc main_v0 ↦{fullShare} W main_v0) ∗ ((tT d).loc main_v1 ↦{fullShare} W main_v1) ∗ ((tT d).loc main_v2 ↦{fullShare} W main_v2)
      ∗ ((tT d).loc main_v3 ↦{fullShare} W main_v3) ∗ ((tT d).loc main_v4 ↦{fullShare} W main_v4) ∗ ((tT d).loc main_v5 ↦{fullShare} W main_v5)) := by
  unfold unscopedBufs
  rw [show (Finset.univ.filter fun b : Ref sig .tc => ¬ b.isScoped) = {main_arg0, main_arg1, main_arg2, main_arg3, main_arg4, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the program ends with: the arguments as they were, and the result. -/
abbrev FIN (d : Dev nD) : sProp 𝕄 :=
  iprop(((tT d).loc main_arg0 ↦{fullShare} m ((tT d).loc main_arg0)) ∗ ((tT d).loc main_arg1 ↦{fullShare} m ((tT d).loc main_arg1))
    ∗ ((tT d).loc main_arg2 ↦{fullShare} m ((tT d).loc main_arg2)) ∗ ((tT d).loc main_arg3 ↦{fullShare} m ((tT d).loc main_arg3))
    ∗ ((tT d).loc main_arg4 ↦{fullShare} m ((tT d).loc main_arg4)) ∗ ((tT d).loc main_v5 ↦{fullShare} result m d))

theorem otc_one (d : Dev nD) : (K (F := F)).Otc d 1 = (0 : CellTallies nD τ sig (HIx 1)) := by
  unfold SparseCore.Cfg.Otc
  exact Finset.sum_eq_zero fun q _ => if_neg (by have := q.isLt; omega)

/-- The launch state after the call is what the projection asks of it and the rest of it. -/
theorem tcSt_one (d : Dev nD) : ∃ R : sProp 𝕄, ((K (F := F)).tcSt EH d 1 : sProp 𝕄) = iprop(idle d ∗ R) := by
  unfold SparseCore.Cfg.tcSt
  rw [otc_one]
  exact ⟨_, rfl⟩

/-- A segment of the projection's pipeline, run by the whole program's definitions. -/
theorem wp_segment [∀ e, Nonempty (Elt F e)] (V : (c : Dev nD) → (b : Ref sig .tc) → Buf (Elt F) ((tT c).loc b))
    (R : Pipeline.RegionSeg (pcfgs (F := F)) adm (pdats V) ι₀ defs₀ 𝒱₀ (K (F := F)).L (K (F := F)).lev 0) (d : Dev nD) (Q : PUnit → sProp 𝕄) :
    iprop(boundary (tT d) ∗ R.pre d ∗ levAts (K (F := F)).L (K (F := F)).lev ∗ toks d ∗ (iprop(boundary (tT d) ∗ R.post d) -∗ Q ⟨⟩))
      ⊢ wp frame (wpE (D (F := F)) 𝒱 (tT d) none) Set.univ (.op (.customCall (Pipeline.entry 0) ()) fun _ => .ret ⟨⟩) Q := by
  have hR := Pipeline.RegionSeg.wp (pcfgs (F := F)) adm (pdats V) ι₀ pinned_inj EP defs₀ 𝒱₀ (K (F := F)).L (K (F := F)).lev R d none
    (fun _ h => by cases h) (fun _ => .ret ⟨⟩) Q
  unfold toks
  iintro ⟨Hb, Hpre, Hlev, ⟨Hg, Ht⟩, Hk⟩
  iapply hR
  isplitl [Hk]
  · iintro H
    rw [wp_ret]
    imodintro
    iapply Hk
    iexact H
  isplitl [Hb]; · iexact Hb
  isplitl [Hpre]; · iexact Hpre
  isplitl [Hlev]; · iexact Hlev
  isplitl [Hg] <;> iassumption

theorem seg_pre (d : Dev nD) (V : (c : Dev nD) → (b : Ref sig .tc) → Buf (Elt F) ((tT c).loc b)) :
    (seg V).pre d = iprop(held V d (V d main_v5) ∗ idle d) := by rfl
theorem seg_post (d : Dev nD) (V : (c : Dev nD) → (b : Ref sig .tc) → Buf (Elt F) ((tT c).loc b)) :
    (seg V).post d = iprop(held V d (projected V d) ∗ idle d) := by rfl

end Cert.KernelIdeal.Pool

end
-- ==== Proof.Run.lean ====
/-
  The host program: the reshapes, the pooling call and the projection, and the whole program's run from any launch memory
  whose indices are in range: what every run leaves in the result, the arguments as they were, every semaphore at zero.
-/
module

public import proofs.«01_k».proof.Proof.Host
public import Idealize.ShloMosaic.Lib.SparseCore.Quiescent

@[expose] public section

noncomputable section

namespace Cert.KernelIdeal.Pool

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Res F

variable [FloatOps F]
variable (m : (ℓ : Loc nD τ sig) → Buf (Elt F) ℓ) (ρ : Dev nD → PrngReg)
/-! ## The projection -/

/-- Lifting the entry of the pipeline gives the host program's call. -/
theorem lift_entry : (SparseCore.liftProg (Q := 1) (.op (.customCall (Pipeline.entry (0 : Fin 1)) ()) fun _ => .ret ⟨⟩ : Prog (TpuEff nD τ sig (Elt F) (Pipeline.Sig Λ₀ (Fin 1) fun p => (pcfgs (F := F) p).Adm) .tc) PUnit))
    = Prog.lift (.customCall (SparseCore.inner (Pipeline.entry (0 : Fin 1))) ()) := rfl

/-- A program of the pipelines' definitions runs alike under the whole program's. -/
theorem wp_lifted (d : Dev nD) (Q : PUnit → sProp 𝕄) (p : Prog (TpuEff nD τ sig (Elt F) (Pipeline.Sig Λ₀ (Fin 1) fun p => (pcfgs (F := F) p).Adm) .tc) PUnit) :
    wp frame (wpE (D (F := F)) 𝒱 (tT d) none) Set.univ p Q ⊢ hwp d (SparseCore.liftProg (Q := 1) p) Q :=
  (K (F := F)).wp_liftProg (D (F := F)) 𝒱 (tT d) Set.univ none p Q

/-- What runs the pipeline's entry runs the host program's call. -/
theorem wp_call_of (d : Dev nD) (Q : PUnit → sProp 𝕄) (A : sProp 𝕄)
    (h : A ⊢ wp frame (wpE (D (F := F)) 𝒱 (tT d) none) Set.univ (.op (.customCall (Pipeline.entry 0) ()) fun _ => .ret ⟨⟩) Q) :
    A ⊢ hwp d (Prog.lift (.customCall (SparseCore.inner (Pipeline.entry 0)) ())) Q := by
  rw [← lift_entry]
  exact h.trans (wp_lifted d Q _)

/-- A segment run by the host program's call. -/
theorem wp_segment_call [∀ e, Nonempty (Elt F e)] (V : (c : Dev nD) → (b : Ref sig .tc) → Buf (Elt F) ((tT c).loc b))
    (R : Pipeline.RegionSeg (pcfgs (F := F)) adm (pdats V) ι₀ defs₀ 𝒱₀ (K (F := F)).L (K (F := F)).lev 0) (d : Dev nD) (Q : PUnit → sProp 𝕄)
    (A B : sProp 𝕄) (hA : R.pre d = A) (hB : R.post d = B) :
    iprop(boundary (tT d) ∗ A ∗ levAts (K (F := F)).L (K (F := F)).lev ∗ toks d ∗ (iprop(boundary (tT d) ∗ B) -∗ Q ⟨⟩))
      ⊢ hwp d (Prog.lift (.customCall (SparseCore.inner (Pipeline.entry 0)) ())) Q := by
  subst hA hB
  exact wp_call_of d Q _ (wp_segment V R d Q)

/-- The projection, from the launch's state. -/
theorem wp_projection [∀ e, Nonempty (Elt F e)] (d : Dev nD) (V : (c : Dev nD) → (b : Ref sig .tc) → Buf (Elt F) ((tT c).loc b)) (Q : PUnit → sProp 𝕄) :
    iprop(boundary (tT d) ∗ (held V d (V d main_v5) ∗ idle d) ∗ levAts (K (F := F)).L (K (F := F)).lev ∗ toks d
        ∗ (iprop(boundary (tT d) ∗ held V d (projected V d) ∗ idle d) -∗ Q ⟨⟩))
      ⊢ hwp d (Prog.lift (.customCall (SparseCore.inner (Pipeline.entry 0)) ())) Q :=
  wp_segment_call V (seg V) d Q _ _ (seg_pre d V) (seg_post d V)

/-- The five arrays of the projection, at its entry. -/
theorem held_entry (d : Dev nD) : (held (entry m) d (entry m d main_v5) : sProp 𝕄)
    = iprop(((tT d).loc main_v2 ↦{fullShare} bags m d) ∗ ((tT d).loc main_v3 ↦{fullShare} lensCol m d) ∗ ((tT d).loc main_arg3 ↦{fullShare} m ((tT d).loc main_arg3))
      ∗ ((tT d).loc main_v4 ↦{fullShare} biasRow m d) ∗ ((tT d).loc main_v5 ↦{fullShare} m ((tT d).loc main_v5))) := by
  unfold held
  rw [entry_v2, entry_v3, entry_v4, entry_arg3, entry_v5]

/-- And when it is over. -/
theorem held_result (d : Dev nD) : (held (entry m) d (projected (entry m) d) : sProp 𝕄)
    = iprop(((tT d).loc main_v2 ↦{fullShare} bags m d) ∗ ((tT d).loc main_v3 ↦{fullShare} lensCol m d) ∗ ((tT d).loc main_arg3 ↦{fullShare} m ((tT d).loc main_arg3))
      ∗ ((tT d).loc main_v4 ↦{fullShare} biasRow m d) ∗ ((tT d).loc main_v5 ↦{fullShare} result m d)) := by
  unfold held
  rw [entry_v2, entry_v3, entry_v4, entry_arg3]
  rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ toks d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [unscoped_eq]
  simp only [main, wp_bind, wp_pure]
  iintro ⟨#Hctx, Hst, ⟨Hb, ⟨H0, H1, H2, H3, H4, Hv0, Hv1, Hv2, Hv3, Hv4, Hv5⟩, Hts, -⟩, Htok⟩
  ihave #Hlev := (SparseCore.Cfg.ctx_levAts κ) $$ Hctx
  iapply (wp_reshape m d _ _ _ _ (by decide) _ _ _) $$ [Hb H0 Hv0]
  · isplitl [Hb]; · iexact Hb
    isplitl [H0]; · iexact H0
    iexact Hv0
  iintro ⟨Hb, H0, Hv0⟩
  iapply ((K (F := F)).wp_run (D (F := F)) 𝒱 (EH := EH) (P := P m) κ d 0)
  isplitr; · iexact Hctx
  isplitl [Hst]; · iexact Hst
  isplitl [Hv0 H2 Hv1]
  · rw [st_eq]
    isplitl [Hv0]; · iexact Hv0
    isplitl [H2]; · iexact H2
    iexact Hv1
  iintro ⟨Hst, Hdn⟩
  ihave Hdn' := (Entails.of_eq (dn_eq m d)) $$ Hdn
  icases Hdn' with ⟨Hv0, H2, Hv1⟩
  iapply (wp_reshape m d _ _ _ _ (by decide) _ _ _) $$ [Hb Hv1 Hv2]
  · isplitl [Hb]; · iexact Hb
    isplitl [Hv1]; · iexact Hv1
    iexact Hv2
  iintro ⟨Hb, Hv1, Hv2⟩
  iapply (wp_reshape m d _ _ _ _ (by decide) _ _ _) $$ [Hb H1 Hv3]
  · isplitl [Hb]; · iexact Hb
    isplitl [H1]; · iexact H1
    iexact Hv3
  iintro ⟨Hb, H1, Hv3⟩
  iapply (wp_reshape m d _ _ _ _ (by decide) _ _ _) $$ [Hb H4 Hv4]
  · isplitl [Hb]; · iexact Hb
    isplitl [H4]; · iexact H4
    iexact Hv4
  iintro ⟨Hb, H4, Hv4⟩
  ihave Hst' := (show ((K (F := F)).tcSt EH d ((0 : Fin 1).val + 1) : sProp 𝕄) ⊢ iprop(idle d ∗ R) from Entails.of_eq hR) $$ Hst
  icases Hst' with ⟨Hidle, Hrest⟩
  iapply (wp_projection d (entry m) _)
  isplitl [Hb]; · iexact Hb
  isplitl [Hidle Hv2 Hv3 H3 Hv4 Hv5]
  · isplitr [Hidle]
    · rw [held_entry]
      isplitl [Hv2]; · iexact Hv2
      isplitl [Hv3]; · iexact Hv3
      isplitl [H3]; · iexact H3
      isplitl [Hv4]; · iexact Hv4
      iexact Hv5
    iexact Hidle
  isplitr; · iexact Hlev
  isplitl [Htok]; · iexact Htok
  iintro ⟨Hb, Hheld, Hidle⟩
  ihave Hheld' := (Entails.of_eq (held_result m d)) $$ Hheld
  icases Hheld' with ⟨-, -, H3, -, Hv5⟩
  imodintro
  isplitl [Hidle Hrest]
  · rw [hR]
    isplitl [Hidle] <;> iassumption
  isplitr [Hb Hts]
  · isplitl [H0]; · iexact H0
    isplitl [H1]; · iexact H1
    isplitl [H2]; · iexact H2
    isplitl [H3]; · iexact H3
    isplitl [H4]; · iexact H4
    iexact Hv5
  isplitl [Hb] <;> iassumption

/-! ## The run -/

/-- What every run ends with: the result, and the arguments as they were. -/
def fq (d : Dev nD) (s' : Phys nD τ sig (Elt F)) : Prop :=
  s'.mem.mem ((tT d).loc main_v5) = result m d ∧ s'.mem.mem ((tT d).loc main_arg0) = m ((tT d).loc main_arg0)
    ∧ s'.mem.mem ((tT d).loc main_arg1) = m ((tT d).loc main_arg1) ∧ s'.mem.mem ((tT d).loc main_arg2) = m ((tT d).loc main_arg2)
    ∧ s'.mem.mem ((tT d).loc main_arg3) = m ((tT d).loc main_arg3) ∧ s'.mem.mem ((tT d).loc main_arg4) = m ((tT d).loc main_arg4)

/-- A buffer held whole says what the memory has there. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, HSI⟩
  ihave H := (agree s' _ _) $$ [H4 HSI]
  · isplitl [H4] <;> iassumption
  icases H with ⟨%h4, HSI⟩
  ihave H := (agree s' _ _) $$ [H5 HSI]
  · isplitl [H5] <;> iassumption
  icases H with ⟨%h5, -⟩
  ipureintro
  exact ⟨h5, h0, h1, h2, h3, h4⟩

/-- The final memory: the result and the arguments on every device, and every semaphore at zero. -/
def QC : PUnit × MemSt nD τ sig (Elt F) → Prop := fun r =>
  (∀ d : Dev nD, r.2.mem ((tT d).loc main_v5) = result m d ∧ r.2.mem ((tT d).loc main_arg0) = m ((tT d).loc main_arg0)
    ∧ r.2.mem ((tT d).loc main_arg1) = m ((tT d).loc main_arg1) ∧ r.2.mem ((tT d).loc main_arg2) = m ((tT d).loc main_arg2)
    ∧ r.2.mem ((tT d).loc main_arg3) = m ((tT d).loc main_arg3) ∧ r.2.mem ((tT d).loc main_arg4) = m ((tT d).loc main_arg4)) ∧ r.2.sem = fun _ => 0

/-- Every run of the program from a memory whose indices are in range ends with the result and everything else in place. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => toks d) (FIN m) (u₀ (F := F)) (sep_elim_left.trans (hu₀ m)) (hmain m ρ) (fq m) (hfin m) (QC m) (fun _ h hz => ⟨h, hz⟩)

end Cert.KernelIdeal.Pool

end
-- ==== Proof.Range.lean ====
/-
  What the precondition says: every index of the problem is below the table's length, and, over extended reals, the
  table's first row is finite.
-/
module

public import proofs.«01_k».proof.Defs
public import Idealize.ShloMosaic.Lib.ReduceAll
public import Idealize.ShloMosaic.Lib.IdealHost
public import Idealize.ShloMosaic.Lib.Pointwise

@[expose] public section

noncomputable section

namespace Cert.Proof

open Idealize.ShloMosaic

/-- The shape relations that the precondition's operations take. -/
theorem rangeFacts : Cert.Pre_in_range.Facts where
  bcast_S_S16384x200 := by decide
  reducesTo_S16384x200_S_d0_1 := by decide
  h_S_ := by decide
  slices_S100000x128_S1x128_0_0 := by decide
  shapeCasts_S1x128_S128 := by decide
  bcast_S_S128 := by decide
  reducesTo_S128_S_d0 := by decide

open Cert.Pre_in_range

instance : Subsingleton S_.Idx := ⟨fun a b => funext fun i => i.elim0⟩

theorem and_one (a b : BitVec 1) (h : IntOp.andi a b = 1#1) : a = 1#1 ∧ b = 1#1 := by
  revert a b; decide

/-- A word between zero and a hundred thousand, signed, is its own value. -/
theorem word_lt (v : BitVec 32) (e : IntOp.andi (IntOp.cmpi .sge v 0#32) (IntOp.cmpi .slt v 100000#32) = 1#1) : v.toNat < 100000 := by
  obtain ⟨e1, e2⟩ := and_one _ _ e
  have hb : ∀ p : Bool, BitVec.ofBool p = 1#1 → p = true := by decide
  simp only [IntOp.cmpi] at e1 e2
  replace e1 := hb _ e1
  replace e2 := hb _ e2
  simp only [BitVec.sle_eq_decide, BitVec.slt_eq_decide, decide_eq_true_eq, BitVec.toInt_eq_toNat_cond, BitVec.toNat_ofNat, Nat.reducePow, Nat.reduceMod] at e1 e2
  omega

variable {F : FTy → Type} [FloatOps F] [Cert.Pre_in_range.Facts]
  (x : IVec S16384x200 32) (l : FVec F S16384 .f32) (t : FVec F S100000x128 .f32) (w : FVec F S128x128 .f32) (b : FVec F S128 .f32)

/-- Every index is below the table's length. -/
theorem indices_lt (h : fn x l t w b = fun _ => 1#1) (p : S16384x200.Idx) : (x p).toNat < 100000 := by
  have e := congrFun h (Shape.Idx.first Facts.h_S_)
  dsimp only [fn] at e
  obtain ⟨e1, -⟩ := and_one _ _ e
  have e2 := Host.reduce_andi_all _ _ _ _ _ e1 p
  exact word_lt _ e2

/-- An extended real whose absolute value is below infinity's pattern is finite. -/
theorem finite_of_abs (v : Ideal .f32) (h : Ideal.cmp .olt (FloatOps.absf v) (Ideal.ofBits .f32 0x7F800000#32) = 1#1) : v ≠ ⊤ ∧ v ≠ ⊥ := by
  have hi : Ideal.ofBits .f32 0x7F800000#32 = ⊤ := by simp [Ideal.ofBits, Ideal.ieee]
  have hb : ∀ p : Bool, BitVec.ofBool p = 1#1 → p = true := by decide
  have h1 := of_decide_eq_true (hb _ h)
  rw [hi] at h1
  change max v (-v) < ⊤ at h1
  constructor
  · rintro rfl; simp at h1
  · rintro rfl; simp at h1

open Idealize.ShloMosaic.Pointwise in
/-- The first row of the table is finite. -/
theorem first_row_finite (t : FVec Ideal S100000x128 .f32) (l : FVec Ideal S16384 .f32) (w : FVec Ideal S128x128 .f32) (b : FVec Ideal S128 .f32)
    (h : fn x l t w b = fun _ => 1#1) (k : Fin 128) :
    t (ix2 0 k) ≠ ⊤ ∧ t (ix2 0 k) ≠ ⊥ := by
  have e := congrFun h (Shape.Idx.first Facts.h_S_)
  dsimp only [fn] at e
  obtain ⟨-, e1⟩ := and_one _ _ e
  have e2 := Host.reduce_andi_all _ _ _ _ _ e1 (fun | 0 => k)
  pointwise at e2
  exact finite_of_abs _ e2

end Cert.Proof

end
-- ==== Proof.Frames.lean ====
/-
  The frames: each program runs from any memory of the precondition, leaves its arguments as they were, and every
  semaphore counter at zero.
-/
module

public import proofs.«01_k».proof.Proof.Run
public import proofs.«01_k».proof.Proof.Range
public import Idealize.ShloMosaic.Lib.ZeroElt
public import Idealize.ShloMosaic.Lib.Tactic
public import proofs.«01_k».proof.Proof.Gen.Kernel
public import proofs.«01_k».proof.Proof.Gen.ReferenceIdeal.Run

@[expose] public section

noncomputable section

namespace Cert.Proof

open Idealize.ShloMosaic Idealize.SL.Sem

instance : Cert.Pre_in_range.Facts := rangeFacts

/-- The precondition over bit patterns gives what the run asks of the launch memory. -/
theorem ok_bits (m : (ℓ : Loc Cert.KernelIdeal.nD Cert.KernelIdeal.τ Cert.KernelIdeal.sig) → Buf (Elt Bits) ℓ) (h : Cert.Pre_Kernel m) :
    Cert.KernelIdeal.Pool.PreOK (F := Bits) m := fun d p => indices_lt _ _ _ _ _ (h d) p

/-- The precondition over extended reals gives it too. -/
theorem ok_ideal (m : (ℓ : Loc Cert.KernelIdeal.nD Cert.KernelIdeal.τ Cert.KernelIdeal.sig) → Buf (Elt Ideal) ℓ) (h : Cert.Pre_KernelIdeal m) :
    Cert.KernelIdeal.Pool.PreOK (F := Ideal) m := fun d p => indices_lt _ _ _ _ _ (h d) p

instance bits_nonempty : ∀ e, Nonempty (Elt Bits e) := fun e => ⟨Elt.zeroBits e⟩
instance ideal_nonempty : ∀ e, Nonempty (Elt Ideal e) := fun e => by cases e <;> exact ⟨(0 : _)⟩

/-- What the kernel's frame states, of the program's other printing, which is the same text. -/
def FrameBits : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frameBits : FrameBits := fun m ρ h =>
  (θ_run Cert.KernelIdeal.defs _ _).mono (fun _ h => ⟨fun c => (h.1 c).2, h.2⟩) (Cert.KernelIdeal.Pool.run_main (F := Bits) m ρ (ok_bits m h))

/-- The kernel's frame. -/
theorem frame_kernel : Cert.quiescent_Kernel := by
  have e : FrameBits = Cert.quiescent_Kernel := by sl_kernel_rfl
  exact e.mp frameBits

/-- The frame of the kernel over extended reals. -/
theorem frame_kernel_ideal : Cert.quiescent_KernelIdeal := fun m ρ h =>
  (θ_run Cert.KernelIdeal.defs _ _).mono (fun _ h => ⟨fun c => (h.1 c).2, h.2⟩) (Cert.KernelIdeal.Pool.run_main (F := Ideal) m ρ (ok_ideal m h))

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- And the same from the memories of the precondition. -/
theorem frame_reference_pre : Cert.quiescent_ReferenceIdeal_pre_in_range := fun m ρ _ => frame_reference m ρ trivial

end Cert.Proof

end
-- ==== Proof.Counting.lean ====
/-
  What the pooling makes of a bag, over extended reals: the sum of the bag's rows of the table, each row left out where the
  bag names the pad row. The kernel adds up every row and takes the pad row away as often as it was counted; since the
  pad row is finite the two agree.
-/
module

public import proofs.«01_k».proof.Proof.Calls
public import Idealize.ShloMosaic.PureOps.Ideal.Laws
public import Mathlib.Data.BitVec

@[expose] public section

noncomputable section

namespace Cert.KernelIdeal.Pool

open Cert.KernelIdeal Cert.KernelIdeal.Gen
open Idealize.ShloMosaic
open scoped BigOperators

/-! ## Counting with words -/

/-- One as a word where an index is the pad index, zero elsewhere. -/
def padWord (v : BitVec 32) : BitVec 32 := if v = 0#32 then 1#32 else 0#32

theorem flag_apply (t : IVec S16 32) (y : S16.Idx) : flag t y = padWord (t y) := by
  show (if BitVec.ofBool (t y == 0#32) = 1#1 then 1#32 else 0#32) = padWord (t y)
  unfold padWord
  by_cases h : t y = 0#32
  · rw [if_pos h, h]; rfl
  · rw [if_neg h, if_neg]
    rw [beq_eq_false_iff_ne.mpr h]; decide

theorem loMask_apply : ∀ y : Fin 16, loMask (fun | 0 => y) = if y.val < 8 then 1#1 else 0#1 := by decide

/-- The place of lane `l`. -/
abbrev lane16 (l : Fin 16) : S16.Idx := fun | 0 => l

/-- What position `p` of an index list adds to bag `g`'s count. -/
def adds (ls : S400.Idx → BitVec 32) (g p : ℕ) : BitVec 32 := if p / 200 = g then padWord (ls (at400 p)) else 0

/-- A block of an index list adds what its positions add. -/
theorem tally_apply (ls : S400.Idx → BitVec 32) (j : ℕ) (hj : j < 25) (c : IVec S16 32 × IVec S16 32) (l : Fin 16) :
    (tally j c (chunk ls j)).1 (lane16 l) = c.1 (lane16 l) + adds ls 0 (16 * j + l.val)
      ∧ (tally j c (chunk ls j)).2 (lane16 l) = c.2 (lane16 l) + adds ls 1 (16 * j + l.val) := by
  have hl := l.isLt
  have hf : flag (chunk ls j) (lane16 l) = padWord (ls (at400 (16 * j + l.val))) := flag_apply _ _
  unfold tally
  split_ifs with h1 h2
  · have e : (16 * j + l.val) / 200 = 0 := by omega
    refine ⟨?_, ?_⟩
    · show c.1 (lane16 l) + flag (chunk ls j) (lane16 l) = _
      rw [hf]; unfold adds; rw [if_pos e]
    · show c.2 (lane16 l) = _
      unfold adds; rw [if_neg (by omega)]; exact (BitVec.add_zero _).symm
  · subst h2
    have hm := loMask_apply l
    refine ⟨?_, ?_⟩
    · show c.1 (lane16 l) + (if loMask (lane16 l) = 1#1 then flag (chunk ls 12) (lane16 l) else 0#32) = _
      rw [hm, hf]; unfold adds
      by_cases h : l.val < 8
      · rw [if_pos h, if_pos rfl, if_pos (by omega)]
      · rw [if_neg h, if_neg (by decide), if_neg (by omega)]; rfl
    · show c.2 (lane16 l) + (if loMask (lane16 l) = 1#1 then 0#32 else flag (chunk ls 12) (lane16 l)) = _
      rw [hm, hf]; unfold adds
      by_cases h : l.val < 8
      · rw [if_pos h, if_pos rfl, if_neg (by omega)]; rfl
      · rw [if_neg h, if_neg (by decide), if_pos (by omega)]
  · have e : (16 * j + l.val) / 200 = 1 := by omega
    refine ⟨?_, ?_⟩
    · show c.1 (lane16 l) = _
      unfold adds; rw [if_neg (by omega)]; exact (BitVec.add_zero _).symm
    · show c.2 (lane16 l) + flag (chunk ls j) (lane16 l) = _
      rw [hf]; unfold adds; rw [if_pos e]

/-- The lane counts after the last `n` blocks. -/
theorem countVal_apply (ls : S400.Idx → BitVec 32) (l : Fin 16) : ∀ (n : ℕ) (hn : n ≤ 25) (c : IVec S16 32 × IVec S16 32),
    (countVal ls n c).1 (lane16 l) = c.1 (lane16 l) + ∑ j ∈ Finset.range n, adds ls 0 (16 * (25 - 1 - j) + l.val)
      ∧ (countVal ls n c).2 (lane16 l) = c.2 (lane16 l) + ∑ j ∈ Finset.range n, adds ls 1 (16 * (25 - 1 - j) + l.val)
  | 0, _, c => by simp [countVal]
  | n + 1, hn, c => by
    obtain ⟨h1, h2⟩ := countVal_apply ls l n (by omega) (tally (24 - n) c (chunk ls (24 - n)))
    obtain ⟨t1, t2⟩ := tally_apply ls (24 - n) (by omega) c l
    rw [t1] at h1
    rw [t2] at h2
    constructor
    · show (countVal ls n (tally (24 - n) c (chunk ls (24 - n)))).1 (lane16 l) = _
      rw [h1, Finset.sum_range_succ]
      abel
    · show (countVal ls n (tally (24 - n) c (chunk ls (24 - n)))).2 (lane16 l) = _
      rw [h2, Finset.sum_range_succ]
      abel

/-- A sum over the blocks and their lanes is a sum over the positions. -/
theorem sum_blocks (f : ℕ → BitVec 32) : ∀ n : ℕ, ∑ j ∈ Finset.range n, ∑ l ∈ Finset.range 16, f (16 * j + l) = ∑ p ∈ Finset.range (16 * n), f p
  | 0 => by simp
  | n + 1 => by rw [Finset.sum_range_succ, sum_blocks f n, Nat.mul_succ, Finset.sum_range_add]

/-- The last word of a running sum is the sum of the lanes. -/
theorem scan_last (v : IVec S16 32) : extractAt ![15] (scan .sum v) inpos_S16_p15 = ∑ l : Fin 16, v (lane16 l) := by
  have h : extractAt ![15] (scan .sum v) inpos_S16_p15
      = v (lane16 0) + v (lane16 1) + v (lane16 2) + v (lane16 3) + v (lane16 4) + v (lane16 5) + v (lane16 6) + v (lane16 7) + v (lane16 8)
        + v (lane16 9) + v (lane16 10) + v (lane16 11) + v (lane16 12) + v (lane16 13) + v (lane16 14) + v (lane16 15) := by
    have e : ∀ k : Fin 16, (Shape.ofLane k : S16.Idx) = lane16 k := fun k => by funext a; match a with | 0 => rfl
    simp only [← e]
    rfl
  rw [h]
  simp only [Fin.sum_univ_castSucc, Fin.sum_univ_zero, zero_add]
  rfl

/-- How many of the first `n` positions of bag `g` hold the pad index. -/
def pads (ls : S400.Idx → BitVec 32) (g : ℕ) : ℕ → ℕ
  | 0 => 0
  | n + 1 => pads ls g n + (if ls (at400 (200 * g + n)) = 0#32 then 1 else 0)

theorem pads_le (ls : S400.Idx → BitVec 32) (g : ℕ) : ∀ n, pads ls g n ≤ n
  | 0 => le_rfl
  | n + 1 => by have := pads_le ls g n; unfold pads; split_ifs <;> omega

theorem sum_padWord (ls : S400.Idx → BitVec 32) (g : ℕ) : ∀ n, ∑ p ∈ Finset.range n, padWord (ls (at400 (200 * g + p))) = BitVec.ofNat 32 (pads ls g n)
  | 0 => rfl
  | n + 1 => by
    rw [Finset.sum_range_succ, sum_padWord ls g n]
    unfold padWord
    show _ = BitVec.ofNat 32 (pads ls g n + _)
    rw [BitVec.ofNat_add]
    split_ifs <;> rfl

/-- The positions of bag `g` alone. -/
theorem sum_adds (ls : S400.Idx → BitVec 32) (g : ℕ) (hg : g < 2) :
    ∑ p ∈ Finset.range 400, adds ls g p = ∑ p ∈ Finset.range 200, padWord (ls (at400 (200 * g + p))) := by
  rw [show (400 : ℕ) = 200 + 200 from rfl, Finset.sum_range_add]
  have lo : ∀ p ∈ Finset.range 200, adds ls g p = if g = 0 then padWord (ls (at400 p)) else 0 := fun p hp => by
    have := Finset.mem_range.mp hp
    unfold adds
    rw [show p / 200 = 0 by omega]
    by_cases h : g = 0
    · rw [if_pos h.symm, if_pos h]
    · rw [if_neg (Ne.symm h), if_neg h]
  have hi : ∀ p ∈ Finset.range 200, adds ls g (200 + p) = if g = 1 then padWord (ls (at400 (200 + p))) else 0 := fun p hp => by
    have := Finset.mem_range.mp hp
    unfold adds
    rw [show (200 + p) / 200 = 1 by omega]
    by_cases h : g = 1
    · rw [if_pos h.symm, if_pos h]
    · rw [if_neg (Ne.symm h), if_neg h]
  rw [Finset.sum_congr rfl lo, Finset.sum_congr rfl hi]
  match g, hg with
  | 0, _ => simp
  | 1, _ => simp

/-- A bag's lane counts, added up, are how often it names the pad row. -/
theorem scan_counts (ls : S400.Idx → BitVec 32) (g : ℕ) (hg : g < 2) :
    extractAt ![15] (scan .sum (if g = 0 then (counts ls).1 else (counts ls).2)) inpos_S16_p15 = BitVec.ofNat 32 (pads ls g 200) := by
  rw [scan_last, ← sum_padWord, ← sum_adds ls g hg, show (400 : ℕ) = 16 * 25 from rfl, ← sum_blocks (adds ls g) 25]
  rw [Finset.sum_comm, ← Fin.sum_univ_eq_sum_range (fun l => ∑ j ∈ Finset.range 25, adds ls g (16 * j + l)) 16]
  refine Finset.sum_congr rfl fun l _ => ?_
  rw [← Finset.sum_range_reflect]
  have h := countVal_apply ls l 25 le_rfl (broadcast S16 0#32, broadcast S16 0#32)
  match g, hg with
  | 0, _ => exact h.1.trans (zero_add _)
  | 1, _ => exact h.2.trans (zero_add _)

/-! ## Over extended reals -/

/-- A bag's count as an extended real. -/
theorem total_counts (ls : S400.Idx → BitVec 32) (g : ℕ) (hg : g < 2) :
    (total (if g = 0 then (counts ls).1 else (counts ls).2) : Ideal .f32) = ((pads ls g 200 : ℝ) : EReal) := by
  have hle := pads_le ls g 200
  unfold total
  rw [scan_counts ls g hg]
  show (((BitVec.ofNat 32 (pads ls g 200)).toInt : ℝ) : EReal) = _
  rw [BitVec.toInt_eq_toNat_cond, BitVec.toNat_ofNat, Nat.mod_eq_of_lt (by omega), if_pos (by omega)]
  norm_cast

/-- The running sum is a sum. -/
theorem accAt_sum (rows : S400x128.Idx → Ideal .f32) (b c : ℕ) : ∀ k, accAt rows b c k = (∑ j ∈ Finset.range k, rows (atRow (b + j) c) : EReal)
  | 0 => Ideal.ofBits_zero_f32
  | k + 1 => by
    rw [Finset.sum_range_succ, ← accAt_sum rows b c k]
    rfl

/-- Every row added up is the rows that are no pad row added up, and the pad row as often as it occurs. -/
theorem sum_split (e : ℕ → EReal) (p : ℕ → Prop) [DecidablePred p] (cnt : ℕ → ℕ) (r : ℝ) (h0 : cnt 0 = 0) (hs : ∀ n, cnt (n + 1) = cnt n + if p n then 1 else 0)
    (he : ∀ n, p n → e n = (r : EReal)) : ∀ n, ∑ j ∈ Finset.range n, e j
      = ∑ j ∈ Finset.range n, e j * (if p j then 0 else 1) + (((cnt n : ℝ) * r : ℝ) : EReal)
  | 0 => by simp [h0]
  | n + 1 => by
    rw [Finset.sum_range_succ, Finset.sum_range_succ, sum_split e p cnt r h0 hs he n, hs]
    by_cases h : p n
    · rw [if_pos h, if_pos h, he n h, mul_zero, add_zero, add_assoc, ← EReal.coe_add]
      congr 2
      push_cast
      ring
    · rw [if_neg h, if_neg h, mul_one, add_zero, add_right_comm]

/-- What the pooling leaves for a bag: the rows that are no pad row, added up. -/
theorem bagsOf_sum (ls : S400.Idx → BitVec 32) (tb : S100000x128.Idx → Ideal .f32) (y : S2x128.Idx)
    (hfin : tb (tIx 0#32 (y 1)) ≠ ⊤ ∧ tb (tIx 0#32 (y 1)) ≠ ⊥) :
    bagsOf (gathered ls tb) (padRow tb) (counts ls) y
      = (∑ j ∈ Finset.range 200, (tb (tIx (ls (at400 (200 * (y 0).val + j))) (y 1)) : EReal) * (if ls (at400 (200 * (y 0).val + j)) = 0#32 then 0 else 1) : EReal) := by
  have hy : (y 0).val < 2 := (y 0).isLt
  have hc : (⟨(y 1).val % 128, Nat.mod_lt _ (by decide)⟩ : Fin 128) = y 1 := Fin.ext (Nat.mod_eq_of_lt (y 1).isLt)
  have hr : ∀ k, gathered ls tb (atRow k (y 1).val) = tb (tIx (ls (at400 k)) (y 1)) := fun k =>
    (congrArg (fun l => tb (tIx (ls (at400 k)) l)) hc)
  have hp : padRow tb (atCol (y 1).val) = tb (tIx 0#32 (y 1)) := congrArg (fun l => tb (tIx 0#32 l)) hc
  obtain ⟨r, hr0⟩ : ∃ r : ℝ, (r : EReal) = tb (tIx 0#32 (y 1)) := ⟨_, EReal.coe_toReal hfin.1 hfin.2⟩
  have hS := sum_split (fun j => tb (tIx (ls (at400 (200 * (y 0).val + j))) (y 1))) (fun j => ls (at400 (200 * (y 0).val + j)) = 0#32)
    (pads ls (y 0).val) r rfl (fun _ => rfl) (fun n hn => by rw [show ls (at400 (200 * (y 0).val + n)) = 0#32 from hn]; exact hr0.symm) 200
  have hacc : accAt (gathered ls tb) (200 * (y 0).val) (y 1).val 200
      = (∑ j ∈ Finset.range 200, (tb (tIx (ls (at400 (200 * (y 0).val + j))) (y 1)) : EReal)) := by
    rw [accAt_sum]; exact Finset.sum_congr rfl fun j _ => hr _
  show (accAt (gathered ls tb) (200 * (y 0).val) (y 1).val 200 : EReal) - ((total (if (y 0).val = 0 then (counts ls).1 else (counts ls).2) : Ideal .f32) : EReal) * (padRow tb (atCol (y 1).val) : EReal) = _
  rw [hacc, total_counts ls _ hy, hp, ← hr0, ← EReal.coe_mul, hS]
  exact EReal.add_sub_cancel_right

end Cert.KernelIdeal.Pool

end
-- ==== Proof.Value.lean ====
/-
  The kernel's result over extended reals, entry by entry: what Proof/RefValue.lean states of the reference.
-/
module

public import proofs.«01_k».proof.Proof.Host
public import proofs.«01_k».proof.Proof.Counting
public import Idealize.ShloMosaic.Lib.IdealHost
public import Idealize.ShloMosaic.Lib.Pointwise

@[expose] public section

noncomputable section

namespace Cert.KernelIdeal.Pool

open Cert.KernelIdeal Cert.KernelIdeal.Gen
open Idealize.ShloMosaic Idealize.ShloMosaic.Pointwise
open Idealize.ShloMosaic.TcCoe

/-! ## Reshapes -/

/-- The flat list of indices, at a position. -/
theorem flat_of (x : IVec S16384x200 32) (p : Fin 3276800) :
    shapeCast S3276800 x shapeCasts_S16384x200_S3276800 (ix1 p) = x (ix2 (⟨p.val / 200, by omega⟩ : Fin 16384) (⟨p.val % 200, by omega⟩ : Fin 200)) := by
  pointwise

/-- The bags' sums, one row for each bag. -/
theorem rows_of (s : FVec Ideal S8192x2x128 .f32) (r : Fin 16384) (k : Fin 128) :
    shapeCast S16384x128 s shapeCasts_S8192x2x128_S16384x128 (ix2 r k) = s (ix3 (⟨r.val / 2, by omega⟩ : Fin 8192) (⟨r.val % 2, by omega⟩ : Fin 2) k) := by
  pointwise

/-- The lengths as a column. -/
theorem col_of (l : FVec Ideal S16384 .f32) (r : Fin 16384) :
    shapeCast S16384x1 l shapeCasts_S16384_S16384x1 (ix2 r 0) = l (ix1 r) := by
  pointwise

/-- The bias as a row. -/
theorem row_of (l : FVec Ideal S128 .f32) (o : Fin 128) :
    shapeCast S1x128 l shapeCasts_S128_S1x128 (ix2 0 o) = l (ix1 o) := by
  pointwise

/-- What the projection's body computes at an entry. -/
theorem body_at (v0 : FVec Ideal S1024x128 .f32) (v2 : FVec Ideal S1024x1 .f32) (v6 : FVec Ideal S128x128 .f32) (v8 : FVec Ideal S1x128 .f32) (r : Fin 1024) (o : Fin 128) :
    k1_pay1 (F := Ideal) v0 v2 v6 v8 (ix2 r o)
      = ((∑ k : Fin 128, Ideal.div (v0 (ix2 r k)) (v2 (ix2 r 0)) * (v6 (ix2 o k) : EReal)) + (v8 (ix2 0 o) : EReal) : EReal) := by
  pointwise [k1_pay1]

variable (m : (ℓ : Loc nD τ sig) → Buf (Elt Ideal) ℓ)

/-! ## The projection's blocks -/

variable (V : (c : Dev nD) → (b : Ref sig .tc) → Buf (Elt Ideal) ((tT c).loc b))

theorem index_0 : ∀ t : Fin cfg1.N, win1_0.index t 0 = t.val ∧ win1_0.index t 1 = 0 := by decide +kernel
theorem index_1 : ∀ t : Fin cfg1.N, win1_1.index t 0 = t.val ∧ win1_1.index t 1 = 0 := by decide +kernel
theorem index_2 : ∀ t : Fin cfg1.N, win1_2.index t 0 = 0 ∧ win1_2.index t 1 = 0 := by decide +kernel
theorem index_3 : ∀ t : Fin cfg1.N, win1_3.index t 0 = 0 ∧ win1_3.index t 1 = 0 := by decide +kernel

/-- A row of the bags, as block `t` holds it. -/
theorem blk_0 (c : Dev nD) (t : Fin cfg1.N) (r : Fin 1024) (k : Fin 128) (R : Fin 16384) (h : R.val = t.val * 1024 + r.val) :
    blkOf V c 0 t (ix2 r k) = V c main_v2 (ix2 R k) := by
  show V c main_v2 ((win1_0.blk t).view.emb (ix2 r k)) = _
  refine congrArg (V c main_v2) (funext fun a => ?_)
  match a with
  | 0 =>
    apply Fin.ext
    have e : (((win1_0.blk t).view.emb (ix2 r k)) 0).val = win1_0.index t 0 * 1024 + 1 * r.val := rfl
    rw [(index_0 t).1] at e
    exact e.trans (by rw [one_mul]; exact h.symm)
  | 1 =>
    apply Fin.ext
    have e : (((win1_0.blk t).view.emb (ix2 r k)) 1).val = win1_0.index t 1 * 128 + 1 * k.val := rfl
    rw [(index_0 t).2] at e
    exact e.trans (by rw [zero_mul, one_mul, zero_add]; rfl)

/-- A row's length, as block `t` holds it. -/
theorem blk_1 (c : Dev nD) (t : Fin cfg1.N) (r : Fin 1024) (R : Fin 16384) (h : R.val = t.val * 1024 + r.val) :
    blkOf V c 1 t (ix2 r 0) = V c main_v3 (ix2 R 0) := by
  show V c main_v3 ((win1_1.blk t).view.emb (ix2 r 0)) = _
  refine congrArg (V c main_v3) (funext fun a => ?_)
  match a with
  | 0 =>
    apply Fin.ext
    have e : (((win1_1.blk t).view.emb (ix2 r 0)) 0).val = win1_1.index t 0 * 1024 + 1 * r.val := rfl
    rw [(index_1 t).1] at e
    exact e.trans (by rw [one_mul]; exact h.symm)
  | 1 => exact Subsingleton.elim (α := Fin 1) _ _

/-- The weights, whole in every block. -/
theorem blk_2 (c : Dev nD) (t : Fin cfg1.N) (o k : Fin 128) : blkOf V c 2 t (ix2 o k) = V c main_arg3 (ix2 o k) := by
  show V c main_arg3 ((win1_2.blk t).view.emb (ix2 o k)) = _
  refine congrArg (V c main_arg3) (funext fun a => ?_)
  match a with
  | 0 =>
    apply Fin.ext
    have e : (((win1_2.blk t).view.emb (ix2 o k)) 0).val = win1_2.index t 0 * 128 + 1 * o.val := rfl
    rw [(index_2 t).1] at e
    exact e.trans (by rw [zero_mul, one_mul, zero_add]; rfl)
  | 1 =>
    apply Fin.ext
    have e : (((win1_2.blk t).view.emb (ix2 o k)) 1).val = win1_2.index t 1 * 128 + 1 * k.val := rfl
    rw [(index_2 t).2] at e
    exact e.trans (by rw [zero_mul, one_mul, zero_add]; rfl)

/-- The bias, whole in every block. -/
theorem blk_3 (c : Dev nD) (t : Fin cfg1.N) (o : Fin 128) : blkOf V c 3 t (ix2 0 o) = V c main_v4 (ix2 0 o) := by
  show V c main_v4 ((win1_3.blk t).view.emb (ix2 0 o)) = _
  refine congrArg (V c main_v4) (funext fun a => ?_)
  match a with
  | 0 => exact Subsingleton.elim (α := Fin 1) _ _
  | 1 =>
    apply Fin.ext
    have e : (((win1_3.blk t).view.emb (ix2 0 o)) 1).val = win1_3.index t 1 * 128 + 1 * o.val := rfl
    rw [(index_3 t).2] at e
    exact e.trans (by rw [zero_mul, one_mul, zero_add]; rfl)

/-- The result's array at `(r, o)`, of what the projection is entered with. -/
theorem projected_at (c : Dev nD) (r : Fin 16384) (o : Fin 128) : projected V c (ix2 r o)
    = ((∑ k : Fin 128, Ideal.div (V c main_v2 (ix2 r k)) (V c main_v3 (ix2 r 0)) * (V c main_arg3 (ix2 o k) : EReal)) + (V c main_v4 (ix2 0 o) : EReal) : EReal) := by
  have hi : inBlk (ix2 r o) = ix2 (⟨r.val % 1024, Nat.mod_lt _ (by decide)⟩ : Fin 1024) o := by
    funext a
    match a with
    | 0 => rfl
    | 1 => rfl
  have hr : r.val = (blkNo (ix2 r o)).val * 1024 + (⟨r.val % 1024, Nat.mod_lt _ (by decide)⟩ : Fin 1024).val := by
    show r.val = r.val / 1024 * 1024 + r.val % 1024
    omega
  unfold projected
  rw [hi]
  generalize blkNo (ix2 r o) = t at hr ⊢
  refine (body_at _ _ _ _ _ o).trans ?_
  rw [blk_1 V c t _ r hr, blk_3]
  congr 1
  refine Finset.sum_congr rfl fun k _ => ?_
  rw [blk_0 V c t _ k r hr, blk_2]

/-! ## The bags -/

/-- The pooled array at bag `g` of block `B`. -/
theorem pooled_at (xs : S3276800.Idx → BitVec 32) (tb : S100000x128.Idx → Ideal .f32) (B : Fin 8192) (g : Fin 2) (k : Fin 128) :
    pooled xs tb (ix3 B g k) = bagsOf (gathered (listOf xs B.val) tb) (padRow tb) (counts (listOf xs B.val)) (ix2 g k) := by
  have hz : inBlock (ix3 B g k) = ix2 g k := by
    funext a
    match a with
    | 0 => rfl
    | 1 => rfl
  show blockVal xs tb B.val (inBlock (ix3 B g k)) = _
  rw [hz]
  rfl

/-- The bag of row `r`, at column `k`. -/
theorem bags_at (d : Dev nD) (r : Fin 16384) (k : Fin 128) (x : IVec S16384x200 32) (t : FVec Ideal S100000x128 .f32)
    (hx : m ((tT d).loc main_arg0) = x) (ht : m ((tT d).loc main_arg2) = t) (hfin : t (ix2 0 k) ≠ ⊤ ∧ t (ix2 0 k) ≠ ⊥) :
    bags m d (ix2 r k) = (∑ j : Fin 200, (t (tIx (x (ix2 r j)) k) : EReal) * (if x (ix2 r j) = 0#32 then 0 else 1) : EReal) := by
  have hpad : tIx 0#32 k = ix2 0 k := by
    funext a
    match a with
    | 0 => rfl
    | 1 => rfl
  have hls : ∀ j : Fin 200, listOf (flat m d) (r.val / 2) (at400 (200 * (r.val % 2) + j.val)) = x (ix2 r j) := fun j => by
    have hj := j.isLt
    have hr := r.isLt
    have hn : 400 * (r.val / 2) + (200 * (r.val % 2) + j.val) % 400 = 200 * r.val + j.val := by omega
    show flat m d (atTok (400 * (r.val / 2) + (200 * (r.val % 2) + j.val) % 400)) = _
    rw [hn]
    have hp : atTok (200 * r.val + j.val) = ix1 (⟨200 * r.val + j.val, by omega⟩ : Fin 3276800) := by
      funext a
      match a with
      | 0 => exact Fin.ext (Nat.mod_eq_of_lt (by omega))
    rw [hp]
    unfold flat
    rw [show m ((SparseCore.T d).loc main_arg0) = x from hx]
    refine (flat_of x _).trans (congrArg x ?_)
    funext a
    match a with
    | 0 => exact Fin.ext (show (200 * r.val + j.val) / 200 = r.val by omega)
    | 1 => exact Fin.ext (show (200 * r.val + j.val) % 200 = j.val by omega)
  have hs : sums m d (ix3 (⟨r.val / 2, by omega⟩ : Fin 8192) (⟨r.val % 2, by omega⟩ : Fin 2) k)
      = bagsOf (gathered (listOf (flat m d) (r.val / 2)) t) (padRow t) (counts (listOf (flat m d) (r.val / 2))) (ix2 (⟨r.val % 2, by omega⟩ : Fin 2) k) := by
    unfold sums
    rw [show table m d = t from ht]
    exact pooled_at _ t _ _ k
  have hb : bags m d (ix2 r k) = sums m d (ix3 (⟨r.val / 2, by omega⟩ : Fin 8192) (⟨r.val % 2, by omega⟩ : Fin 2) k) := by
    unfold bags
    exact rows_of (sums m d) r k
  rw [hb, hs]
  clear hb hs
  generalize listOf (flat m d) (r.val / 2) = ls at hls ⊢
  refine (bagsOf_sum ls t _ ?_).trans ?_
  · show t (tIx 0#32 k) ≠ ⊤ ∧ t (tIx 0#32 k) ≠ ⊥
    rw [hpad]; exact hfin
  · show (∑ j ∈ Finset.range 200, (t (tIx (ls (at400 (200 * (r.val % 2) + j))) k) : EReal) * (if ls (at400 (200 * (r.val % 2) + j)) = 0#32 then 0 else 1) : EReal) = _
    rw [← Fin.sum_univ_eq_sum_range (fun j => (t (tIx (ls (at400 (200 * (r.val % 2) + j))) k) : EReal) * (if ls (at400 (200 * (r.val % 2) + j)) = 0#32 then 0 else 1)) 200]
    refine Finset.sum_congr rfl fun j _ => ?_
    rw [hls j]

/-- The kernel's result at `(r, o)`. -/
theorem result_at (d : Dev nD) (r : Fin 16384) (o : Fin 128) (x : IVec S16384x200 32) (l : FVec Ideal S16384 .f32) (t : FVec Ideal S100000x128 .f32) (w : FVec Ideal S128x128 .f32) (b : FVec Ideal S128 .f32)
    (hx : m ((tT d).loc main_arg0) = x) (hl : m ((tT d).loc main_arg1) = l) (ht : m ((tT d).loc main_arg2) = t) (hw : m ((tT d).loc main_arg3) = w) (hb : m ((tT d).loc main_arg4) = b)
    (hfin : ∀ k, t (ix2 0 k) ≠ ⊤ ∧ t (ix2 0 k) ≠ ⊥) :
    result m d (ix2 r o) = ((∑ k : Fin 128, Ideal.div (∑ j : Fin 200, (t (tIx (x (ix2 r j)) k) : EReal) * (if x (ix2 r j) = 0#32 then 0 else 1)) (l (ix1 r)) * (w (ix2 o k) : EReal)) + (b (ix1 o) : EReal) : EReal) := by
  have hL : entry m d main_v3 (ix2 r 0) = l (ix1 r) := by
    rw [entry_v3]; unfold lensCol; rw [hl]; exact col_of l r
  have hB : entry m d main_v4 (ix2 0 o) = b (ix1 o) := by
    rw [entry_v4]; unfold biasRow; rw [hb]; exact row_of b o
  have hT : ∀ k, entry m d main_v2 (ix2 r k) = _ := fun k => (congrFun (entry_v2 m d) _).trans (bags_at m d r k x t hx ht (hfin k))
  have hW : ∀ k, entry m d main_arg3 (ix2 o k) = w (ix2 o k) := fun k => (congrFun (entry_arg3 m d) _).trans (congrFun hw _)
  refine (projected_at (entry m) d r o).trans ?_
  rw [hL, hB]
  congr 1
  refine Finset.sum_congr rfl fun k _ => ?_
  rw [hT k, hW k]

end Cert.KernelIdeal.Pool

end
-- ==== Proof.RefValue.lean ====
/-
  The reference's result over extended reals, entry by entry: for row `r` and column `o` the sum over the columns `k` of
  the bag's sum at `k`, divided by the row's length, times the weight at `(o, k)`, and the bias at `o`.
-/
module

public import proofs.«01_k».proof.Proof.Gen.ReferenceIdeal.Run
public import Idealize.ShloMosaic.Lib.ReduceAll
public import Idealize.ShloMosaic.Lib.IdealHost
public import Idealize.ShloMosaic.Lib.Pointwise

@[expose] public section

noncomputable section

namespace Cert.ReferenceIdeal.Bags

open Cert.ReferenceIdeal Cert.ReferenceIdeal.Gen Idealize.ShloMosaic Idealize.ShloMosaic.Pointwise

/-- The table's row that a word names. -/
def rowOf (v : BitVec 32) : Fin 100000 := ⟨v.toNat % 100000, Nat.mod_lt _ (by decide)⟩

/-- The printed gather reads, at position `(r, j)` and column `k`, the row that the index there names. -/
theorem gather_rows {α : Type} (x : S100000x128.Idx → α) (idx : IVec S16384x200x1 32) (r : Fin 16384) (j : Fin 200) (k : Fin 128)
    (h : (idx (ix3 r j 0)).toNat < 100000) :
    Host.gather gather_S100000x128_S16384x200x1_S16384x200x128_2_0_n_n_0_2_1128 x idx (ix3 r j k) = x (ix2 (rowOf (idx (ix3 r j 0))) k) := by
  unfold Host.gather
  refine congrArg x (funext fun a => Fin.ext ?_)
  have hsi : ∀ i, gather_S100000x128_S16384x200x1_S16384x200x128_2_0_n_n_0_2_1128.siIdx (ix3 r j k) i = ix3 r j 0 := fun i => by
    funext b
    match b with
    | 0 => rfl
    | 1 => rfl
    | 2 => exact Subsingleton.elim (α := Fin 1) _ _
  match a with
  | 0 =>
    show gather_S100000x128_S16384x200x1_S16384x200x128_2_0_n_n_0_2_1128.start (ix3 r j k) idx 0 + _ + _ = _
    unfold GatherDims.start
    rw [dif_pos (by decide), hsi]
    show min (idx (ix3 r j 0)).toInt.toNat (100000 - 1) + 0 + 0 = (idx (ix3 r j 0)).toNat % 100000
    have ht : (idx (ix3 r j 0)).toInt = ((idx (ix3 r j 0)).toNat : ℤ) := by
      rw [BitVec.toInt_eq_toNat_cond, if_pos (by omega)]
    rw [ht, Nat.mod_eq_of_lt h]
    omega
  | 1 =>
    show gather_S100000x128_S16384x200x1_S16384x200x128_2_0_n_n_0_2_1128.start (ix3 r j k) idx 1 + _ + _ = _
    unfold GatherDims.start
    rw [dif_neg (by decide)]
    show 0 + 0 + k.val = k.val
    omega

/-- A word below the table's length is its own value. -/
theorem word_toInt (v : BitVec 32) (h : v.toNat < 100000) : v.toInt = (v.toNat : ℤ) := by
  rw [BitVec.toInt_eq_toNat_cond, if_pos (by omega)]

/-- A choice that a mask of ones makes. -/
theorem chosen (I : IVec S16384x200 1) (G N : FVec Ideal S16384x200x128 .f32) (hI : ∀ p, I p = 1#1) (j : S16384x200x128.Idx) :
    select (broadcastInDim S16384x200x128 ![0, 1] bcast_S16384x200_S16384x200x128_0_1 I) G N j = G j := by
  show (if I _ = 1#1 then G j else N j) = G j
  rw [hI, if_pos rfl]

/-- The reference's last steps. -/
theorem project_at (T M : FVec Ideal S16384x200x128 .f32) (l : FVec Ideal S16384 .f32) (w : FVec Ideal S128x128 .f32) (b : FVec Ideal S128 .f32) (r : Fin 16384) (o : Fin 128) :
    addf (Host.dotGeneral dot_S16384x128_S128x128_S16384x128_1_0_0_1_n_n none (Host.divf (Host.reduceAdd (mulf T M) (constant S_ .f32 0x00000000#32) reducesTo_S16384x200x128_S16384x128_d1 h_S_) (broadcastInDim S16384x128 ![0, 1] bcast_S16384x1_S16384x128_0_1 (broadcastInDim S16384x1 ![0] bcast_S16384_S16384x1_0 l))) (transpose S128x128 [1, 0] w transposes_S128x128_S128x128_1_0)) (broadcastInDim S16384x128 ![0, 1] bcast_S1x128_S16384x128_0_1 (broadcastInDim S1x128 ![1] bcast_S128_S1x128_1 b)) (ix2 r o)
      = ((∑ k : Fin 128, Ideal.div (∑ j : Fin 200, (T (ix3 r j k) : EReal) * (M (ix3 r j k) : EReal)) (l (ix1 r)) * (w (ix2 o k) : EReal)) + (b (ix1 o) : EReal) : EReal) := by
  pointwise

variable (x : IVec S16384x200 32) (l : FVec Ideal S16384 .f32) (t : FVec Ideal S100000x128 .f32) (w : FVec Ideal S128x128 .f32) (b : FVec Ideal S128 .f32)

/-- The indices as the reference reads them: a negative one from the table's end. -/
abbrev wrapped : IVec S16384x200 32 :=
  select (cmpi .slt x (broadcastInDim S16384x200 ![] bcast_S_S16384x200 (constantI S_ 32 0#32))) (addi x (broadcastInDim S16384x200 ![] bcast_S_S16384x200 (constantI S_ 32 100000#32))) x

/-- The same with an axis of length one. -/
abbrev column : IVec S16384x200x1 32 := broadcastInDim S16384x200x1 ![0, 1] bcast_S16384x200_S16384x200x1_0_1 (wrapped x)

/-- Where an index lies within the table. -/
abbrev inside : IVec S16384x200 1 :=
  Host.reduce IntOp.andi (andi (cmpi .sge (column x) (broadcastInDim S16384x200x1 ![] bcast_S_S16384x200x1 (constantI S_ 32 0#32))) (cmpi .sle (column x) (broadcastInDim S16384x200x1 ![0, 1, 2] bcast_S1x1x1_S16384x200x1_0_1_2 (broadcastInDim S1x1x1 ![2] bcast_S1_S1x1x1_2 (constantI S1 32 99999#32))))) (constantI S_ 1 1#1) reducesTo_S16384x200x1_S16384x200_d2 h_S_

/-- The rows that the indices name. -/
abbrev taken : FVec Ideal S16384x200x128 .f32 :=
  select (broadcastInDim S16384x200x128 ![0, 1] bcast_S16384x200_S16384x200x128_0_1 (inside x)) (Host.gather gather_S100000x128_S16384x200x1_S16384x200x128_2_0_n_n_0_2_1128 t (column x)) (broadcastInDim S16384x200x128 ![] bcast_S_S16384x200x128 (constant S_ .f32 0x7FC00000#32))

/-- One where an index is no pad index, zero elsewhere. -/
abbrev kept : FVec Ideal S16384x200x128 .f32 :=
  broadcastInDim S16384x200x128 ![0, 1, 2] bcast_S16384x200x1_S16384x200x128_0_1_2 (uitofp .f32 (broadcastInDim S16384x200x1 ![0, 1] bcast_S16384x200_S16384x200x1_0_1 (cmpi .ne x (broadcastInDim S16384x200 ![] bcast_S_S16384x200 (constantI S_ 32 0#32)))))

/-- What the reference computes. -/
abbrev out : FVec Ideal S16384x128 .f32 :=
  addf (Host.dotGeneral dot_S16384x128_S128x128_S16384x128_1_0_0_1_n_n none (Host.divf (Host.reduceAdd (mulf (taken x t) (kept x)) (constant S_ .f32 0x00000000#32) reducesTo_S16384x200x128_S16384x128_d1 h_S_) (broadcastInDim S16384x128 ![0, 1] bcast_S16384x1_S16384x128_0_1 (broadcastInDim S16384x1 ![0] bcast_S16384_S16384x1_0 l))) (transpose S128x128 [1, 0] w transposes_S128x128_S128x128_1_0)) (broadcastInDim S16384x128 ![0, 1] bcast_S1x128_S16384x128_0_1 (broadcastInDim S1x128 ![1] bcast_S128_S1x128_1 b))

variable (hx : ∀ p, (x p).toNat < 100000)
include hx

/-- No index is negative. -/
theorem wrapped_eq : wrapped x = x := by
  funext p
  have hn : IntOp.cmpi .slt (x p) 0#32 = 0#1 := by
    simp [IntOp.cmpi, BitVec.slt_eq_decide, word_toInt _ (hx p)]
    rw [decide_eq_false (by omega)]
    rfl
  show (if IntOp.cmpi .slt (x p) 0#32 = 1#1 then _ else x p) = x p
  rw [hn, if_neg (by decide)]

theorem column_lt (p) : (column x p).toNat < 100000 := by
  rw [column, wrapped_eq x hx]
  exact hx _

/-- Every index lies within the table. -/
theorem inside_eq (p) : inside x p = 1#1 := by
  refine Host.reduce_andi_one _ _ _ _ _ rfl fun i => ?_
  have h := column_lt x hx i
  show IntOp.andi (IntOp.cmpi .sge (column x i) 0#32) (IntOp.cmpi .sle (column x i) 99999#32) = 1#1
  generalize column x i = v at h ⊢
  have h1 : IntOp.cmpi .sge v 0#32 = 1#1 := by
    simp [IntOp.cmpi, BitVec.sle_eq_decide, word_toInt _ h]
  have h2 : IntOp.cmpi .sle v 99999#32 = 1#1 := by
    simp [IntOp.cmpi, BitVec.sle_eq_decide, word_toInt _ h]
    rw [decide_eq_true (by omega)]
    rfl
  rw [h1, h2]; rfl

/-- The row that the index at `(r, j)` names. -/
theorem taken_at (r : Fin 16384) (j : Fin 200) (k : Fin 128) : taken x t (ix3 r j k) = t (ix2 (rowOf (x (ix2 r j))) k) := by
  have hc : column x (ix3 r j 0) = x (ix2 r j) := by
    rw [column, wrapped_eq x hx]
    pointwise
  have hg := gather_rows t (column x) r j k (column_lt x hx _)
  rw [hc] at hg
  rw [← hg]
  exact chosen (inside x) _ _ (inside_eq x hx) _

omit hx in
/-- The mask at `(r, j)`. -/
theorem kept_at (r : Fin 16384) (j : Fin 200) (k : Fin 128) : kept x (ix3 r j k) = ((if x (ix2 r j) = 0#32 then 0 else 1 : EReal)) := by
  pointwise [kept]
  generalize x (ix2 r j) = v
  show (((IntOp.cmpi .ne v 0#32).toNat : ℝ) : EReal) = _
  by_cases h : v = 0#32
  · subst h
    simp [IntOp.cmpi]
  · have hb : (v != 0#32) = true := by simpa using h
    simp [IntOp.cmpi, h, hb]

/-- The reference's result at `(r, o)`. -/
theorem out_at (r : Fin 16384) (o : Fin 128) : out x l t w b (ix2 r o)
    = ((∑ k : Fin 128, Ideal.div (∑ j : Fin 200, (t (ix2 (rowOf (x (ix2 r j))) k) : EReal) * (if x (ix2 r j) = 0#32 then 0 else 1)) (l (ix1 r)) * (w (ix2 o k) : EReal)) + (b (ix1 o) : EReal) : EReal) := by
  have e : ∀ j k, (taken x t (ix3 r j k) : EReal) * (kept x (ix3 r j k) : EReal) = (t (ix2 (rowOf (x (ix2 r j))) k) : EReal) * (if x (ix2 r j) = 0#32 then 0 else 1) :=
    fun j k => by rw [taken_at x t hx, kept_at]
  rw [out, project_at]
  simp only [e]

end Cert.ReferenceIdeal.Bags

end
-- ==== Proof.Algebraic.lean ====
/-
  The value claim: from memories of the precondition that agree on the arguments, the kernel and the reference, both over
  extended reals, end with the same result.
-/
module

public import proofs.«01_k».proof.Proof.Frames
public import proofs.«01_k».proof.Proof.Value
public import proofs.«01_k».proof.Proof.RefValue

@[expose] public section

noncomputable section

namespace Cert.Proof

open Idealize.ShloMosaic Idealize.ShloMosaic.Pointwise Idealize.SL.Sem

/-- What the kernel leaves is what the reference computes. -/
theorem result_eq (m : (ℓ : Loc Cert.KernelIdeal.nD Cert.KernelIdeal.τ Cert.KernelIdeal.sig) → Buf (Elt Ideal) ℓ) (c : Dev Cert.KernelIdeal.nD)
    (x : IVec Cert.KernelIdeal.S16384x200 32) (l : FVec Ideal Cert.KernelIdeal.S16384 .f32) (t : FVec Ideal Cert.KernelIdeal.S100000x128 .f32)
    (w : FVec Ideal Cert.KernelIdeal.S128x128 .f32) (b : FVec Ideal Cert.KernelIdeal.S128 .f32)
    (hx : m ((c.tc : Thread Cert.KernelIdeal.nD Cert.KernelIdeal.τ).loc Cert.KernelIdeal.main_arg0) = x)
    (hl : m ((c.tc : Thread Cert.KernelIdeal.nD Cert.KernelIdeal.τ).loc Cert.KernelIdeal.main_arg1) = l)
    (ht : m ((c.tc : Thread Cert.KernelIdeal.nD Cert.KernelIdeal.τ).loc Cert.KernelIdeal.main_arg2) = t)
    (hw : m ((c.tc : Thread Cert.KernelIdeal.nD Cert.KernelIdeal.τ).loc Cert.KernelIdeal.main_arg3) = w)
    (hb : m ((c.tc : Thread Cert.KernelIdeal.nD Cert.KernelIdeal.τ).loc Cert.KernelIdeal.main_arg4) = b)
    (hpre : ∀ p, (x p).toNat < 100000) (hfin : ∀ k, t (ix2 0 k) ≠ ⊤ ∧ t (ix2 0 k) ≠ ⊥) :
    Cert.KernelIdeal.Pool.result m c = Cert.ReferenceIdeal.Bags.out x l t w b := by
  funext z
  obtain ⟨r, o, rfl⟩ : ∃ (r : Fin 16384) (o : Fin 128), z = ix2 r o := ⟨z 0, z 1, by
    funext a
    match a with
    | 0 => rfl
    | 1 => rfl⟩
  have hi : ∀ (v : BitVec 32) (k : Fin 128), Cert.KernelIdeal.Pool.tIx v k = ix2 (Cert.ReferenceIdeal.Bags.rowOf v) k := fun v k => by
    funext a
    match a with
    | 0 => rfl
    | 1 => rfl
  refine (Cert.KernelIdeal.Pool.result_at m c r o x l t w b hx hl ht hw hb hfin).trans ?_
  refine Eq.trans ?_ (Cert.ReferenceIdeal.Bags.out_at x l t w b hpre r o).symm
  simp only [hi]

/-- The value claim. -/
theorem algebraic : Cert.algebraic_KernelIdeal_ReferenceIdeal := by
  intro m ρ m' ρ' h e
  refine ⟨fun c => Cert.KernelIdeal.Pool.result m c, ?_, ?_⟩
  · exact (θ_run Cert.KernelIdeal.defs _ _).mono (fun _ h => h.1) (Cert.KernelIdeal.Pool.run_main (F := Ideal) m ρ (ok_ideal m h))
  · refine (θ_run Cert.ReferenceIdeal.defs _ _).mono (fun r hr c => ⟨(hr c).1.trans ?_, (hr c).2⟩) (Cert.ReferenceIdeal.Value.run (F := Ideal) m' ρ')
    obtain ⟨e0, e1, e2, e3, e4⟩ := e c
    exact (result_eq m c _ _ _ _ _ e0.symm e1.symm e2.symm e3.symm e4.symm
      (fun p => by rw [e0]; exact indices_lt _ _ _ _ _ (h c) p)
      (fun k => by rw [e2]; exact first_row_finite _ _ _ _ _ (h c) k)).symm

end Cert.Proof

end
-- ==== Proof.lean ====
/-
  The certificate's claim, put together: the frames (Proof/Frames.lean), the fact that the kernel over extended reals
  is the printed kernel's own text, and the value claim (Proof/Algebraic.lean).
-/
module

public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, rangeFacts, frame_kernel, frame_kernel_ideal, frame_reference,
    frame_reference_pre, trivial, algebraic⟩

end Cert.Proof

end
